-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_blocks_distinct [hPre_blocks_distinct : Cert.Pre_blocks_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_blocks_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_blocks_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_blocks_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_blocks_distinct [hPre_blocks_distinct : Cert.Pre_blocks_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_blocks_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_blocks_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_blocks_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_blocks_distinct [hKernelIdeal : Cert.KernelIdeal.Facts] [hPre_blocks_distinct : Cert.Pre_blocks_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_blocks_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_blocks_distinct [hReferenceIdeal : Cert.ReferenceIdeal.Facts] [hPre_blocks_distinct : Cert.Pre_blocks_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_blocks_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "s" .f32 0x3DB504F3#32 (((Real.sqrt 128)⁻¹ : ℝ) : EReal)

def algebraic_KernelIdeal_ReferenceIdeal_pre_blocks_distinct [hKernelIdeal : Cert.KernelIdeal.Facts] [hReferenceIdeal : Cert.ReferenceIdeal.Facts] [hPre_blocks_distinct : Cert.Pre_blocks_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_blocks_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v422) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_blocks_distinct : Cert.Pre_blocks_distinct.Facts),
    quiescent_Kernel (hKernel := hKernel)
    ∧ quiescent_KernelIdeal (hKernelIdeal := hKernelIdeal)
    ∧ quiescent_KernelIdeal_pre_blocks_distinct (hKernelIdeal := hKernelIdeal) (hPre_blocks_distinct := hPre_blocks_distinct)
    ∧ quiescent_ReferenceIdeal (hReferenceIdeal := hReferenceIdeal)
    ∧ quiescent_ReferenceIdeal_pre_blocks_distinct (hReferenceIdeal := hReferenceIdeal) (hPre_blocks_distinct := hPre_blocks_distinct)
    ∧ preserves_Kernel_KernelIdeal
    ∧ algebraic_KernelIdeal_ReferenceIdeal_pre_blocks_distinct (hKernelIdeal := hKernelIdeal) (hReferenceIdeal := hReferenceIdeal) (hPre_blocks_distinct := hPre_blocks_distinct)
-- ==== Pre_blocks_distinct.lean ====
abbrev S8x16x32x128 : Shape := ⟨4, ![8, 16, 32, 128]⟩
abbrev S8x4096x8x128 : Shape := ⟨4, ![8, 4096, 8, 128]⟩
abbrev S8x256 : Shape := ⟨2, ![8, 256]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩

class Facts : Prop where
  shapeCasts_S8x256_S2048 : S8x256.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S8x16x32x128 : S_.BroadcastsInDim S8x16x32x128 (![] : Fin 0 → Fin S8x16x32x128.rank)

variable [Facts]

def fn {F : FTy → Type} [FloatOps F] (main_arg0 : FVec F S8x16x32x128 .f32) (main_arg1 : FVec F S8x4096x8x128 .f32) (main_arg2 : FVec F S8x4096x8x128 .f32) (main_arg3 : IVec S8x256 32) : IVec S8x16x32x128 1 × IVec S2048 1 × IVec S2048x2048 1 :=
  let main_v0 : IVec S2048 32 := shapeCast S2048 main_arg3 shapeCasts_S8x256_S2048
  let main_v1 : IVec S2048 32 := iotaInDim S2048 32 0
  let main_c : IVec S_ 32 := constantI S_ 32 0#32
  let main_v2 : IVec S2048 32 := broadcastInDim S2048 ![] bcast_S_S2048 main_c
  let main_v3 : IVec S2048 1 := cmpi .sge main_v0 main_v2
  let main_c_0 : IVec S_ 32 := constantI S_ 32 2048#32
  let main_v4 : IVec S2048 32 := broadcastInDim S2048 ![] bcast_S_S2048 main_c_0
  let main_v5 : IVec S2048 1 := cmpi .slt main_v0 main_v4
  let main_v6 : IVec S2048 1 := andi main_v3 main_v5
  let main_v7 : IVec S2048x1 32 := broadcastInDim S2048x1 ![0] bcast_S2048_S2048x1_0 main_v0
  let main_v8 : IVec S1x2048 32 := broadcastInDim S1x2048 ![1] bcast_S2048_S1x2048_1 main_v0
  let main_v9 : IVec S2048x2048 32 := broadcastInDim S2048x2048 ![0, 1] bcast_S2048x1_S2048x2048_0_1 main_v7
  let main_v10 : IVec S2048x2048 32 := broadcastInDim S2048x2048 ![0, 1] bcast_S1x2048_S2048x2048_0_1 main_v8
  let main_v11 : IVec S2048x2048 1 := cmpi .ne main_v9 main_v10
  let main_v12 : IVec S2048x1 32 := broadcastInDim S2048x1 ![0] bcast_S2048_S2048x1_0 main_v1
  let main_v13 : IVec S1x2048 32 := broadcastInDim S1x2048 ![1] bcast_S2048_S1x2048_1 main_v1
  let main_v14 : IVec S2048x2048 32 := broadcastInDim S2048x2048 ![0, 1] bcast_S2048x1_S2048x2048_0_1 main_v12
  let main_v15 : IVec S2048x2048 32 := broadcastInDim S2048x2048 ![0, 1] bcast_S1x2048_S2048x2048_0_1 main_v13
  let main_v16 : IVec S2048x2048 1 := cmpi .eq main_v14 main_v15
  let main_v17 : IVec S2048x2048 1 := ori main_v11 main_v16
  let main_v18 : FVec F S8x16x32x128 .f32 := Host.absf main_arg0
  let main_cst : FVec F S_ .f32 := constant S_ .f32 0x7F800000#32
  let main_v19 : FVec F S8x16x32x128 .f32 := broadcastInDim S8x16x32x128 ![] bcast_S_S8x16x32x128 main_cst
  let main_v20 : IVec S8x16x32x128 1 := cmpf .olt main_v18 main_v19
  (main_v20, main_v6, main_v17)
-- ==== Kernel.lean ====
abbrev S8x16x32x128 : Shape := ⟨4, ![8, 16, 32, 128]⟩
abbrev S8x4096x8x128 : Shape := ⟨4, ![8, 4096, 8, 128]⟩
abbrev S8x256 : Shape := ⟨2, ![8, 256]⟩
abbrev S8x16x8x4x128 : Shape := ⟨5, ![8, 16, 8, 4, 128]⟩
abbrev S8x8x16x4x128 : Shape := ⟨5, ![8, 8, 16, 4, 128]⟩
abbrev S8x8x64x128 : Shape := ⟨4, ![8, 8, 64, 128]⟩
abbrev S8x4096x1024 : Shape := ⟨3, ![8, 4096, 1024]⟩
abbrev S1x1x64x128 : Shape := ⟨4, ![1, 1, 64, 128]⟩
abbrev S1x4096x128 : Shape := ⟨3, ![1, 4096, 128]⟩
abbrev S64x128 : Shape := ⟨2, ![64, 128]⟩
abbrev S4096x128 : Shape := ⟨2, ![4096, 128]⟩
abbrev S4096 : Shape := ⟨1, ![4096]⟩
abbrev S4096x1 : Shape := ⟨2, ![4096, 1]⟩
abbrev S64x4096 : Shape := ⟨2, ![64, 4096]⟩
abbrev S64 : Shape := ⟨1, ![64]⟩
abbrev S64x1 : Shape := ⟨2, ![64, 1]⟩

abbrev nBuf : Space → Nat
  | .hbm => 13
  | .vmem => 8
  | .smem => 0
  | _ => 0

abbrev bufTy : (tb : Table) → Fin (tcTables nBuf tb) → BufTy
  | .hbm, ⟨0, _⟩ => ⟨S8x16x32x128, .f32⟩
  | .hbm, ⟨1, _⟩ => ⟨S8x4096x8x128, .f32⟩
  | .hbm, ⟨2, _⟩ => ⟨S8x4096x8x128, .f32⟩
  | .hbm, ⟨3, _⟩ => ⟨S8x256, .i32⟩
  | .hbm, ⟨4, _⟩ => ⟨S8x16x8x4x128, .f32⟩
  | .hbm, ⟨5, _⟩ => ⟨S8x8x16x4x128, .f32⟩
  | .hbm, ⟨6, _⟩ => ⟨S8x8x64x128, .f32⟩
  | .hbm, ⟨7, _⟩ => ⟨S8x4096x1024, .f32⟩
  | .hbm, ⟨8, _⟩ => ⟨S8x4096x1024, .f32⟩
  | .hbm, ⟨9, _⟩ => ⟨S8x8x64x128, .f32⟩
  | .hbm, ⟨10, _⟩ => ⟨S8x8x16x4x128, .f32⟩
  | .hbm, ⟨11, _⟩ => ⟨S8x16x8x4x128, .f32⟩
  | .hbm, ⟨12, _⟩ => ⟨S8x16x32x128, .f32⟩
  | .local _ .vmem, ⟨0, _⟩ => ⟨S1x1x64x128, .f32⟩
  | .local _ .vmem, ⟨1, _⟩ => ⟨S1x1x64x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x1x64x128, .f32⟩
  | .local _ .vmem, ⟨7, _⟩ => ⟨S1x1x64x128, .f32⟩
  | _, _ => ⟨S8x16x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "s" => some (((Real.sqrt 128)⁻¹ : ℝ) : EReal)
  | _ => none
-- ==== ReferenceIdeal.lean ====
abbrev S8x16x32x128 : Shape := ⟨4, ![8, 16, 32, 128]⟩
abbrev S8x4096x8x128 : Shape := ⟨4, ![8, 4096, 8, 128]⟩
abbrev S8x256 : Shape := ⟨2, ![8, 256]⟩
abbrev S_ : Shape := ⟨0, ![]⟩
abbrev S8x4096x8 : Shape := ⟨3, ![8, 4096, 8]⟩
abbrev S8x4096x8x1 : Shape := ⟨4, ![8, 4096, 8, 1]⟩
abbrev S2048 : Shape := ⟨1, ![2048]⟩
abbrev S2048x16x8x128 : Shape := ⟨4, ![2048, 16, 8, 128]⟩
abbrev S2048x16x8 : Shape := ⟨3, ![2048, 16, 8]⟩
abbrev S2048x1 : Shape := ⟨2, ![2048, 1]⟩
abbrev S8x16x8x4x128 : Shape := ⟨5, ![8, 16, 8, 4, 128]⟩
abbrev S8x8x4096x16x4 : Shape := ⟨5, ![8, 8, 4096, 16, 4]⟩
abbrev S8x8x4x16x4096 : Shape := ⟨5, ![8, 8, 4, 16, 4096]⟩
abbrev S16 : Shape := ⟨1, ![16]⟩
abbrev S4096 : Shape := ⟨1, ![4096]⟩
abbrev S1x4096 : Shape := ⟨2, ![1, 4096]⟩
abbrev S16x1 : Shape := ⟨2, ![16, 1]⟩
abbrev S16x4096 : Shape := ⟨2, ![16, 4096]⟩
abbrev S1x1x1x16x4096 : Shape := ⟨5, ![1, 1, 1, 16, 4096]⟩
abbrev S8x8x4x16 : Shape := ⟨4, ![8, 8, 4, 16]⟩
abbrev S8x8x4x16x1 : Shape := ⟨5, ![8, 8, 4, 16, 1]⟩
abbrev S8x8x128x4x16 : Shape := ⟨5, ![8, 8, 128, 4, 16]⟩

abbrev nBuf : Space → Nat
  | .hbm => 581
  | .vmem => 0
  | .smem => 0
  | _ => 0

abbrev hbmTy0_0 (i : Nat) : BufTy := match i % 128 with
  | 0 => ⟨S8x16x32x128, .f32⟩
  | 1 => ⟨S8x4096x8x128, .f32⟩
  | 2 => ⟨S8x4096x8x128, .f32⟩
  | 3 => ⟨S8x256, .i32⟩
  | 4 => ⟨S8x4096x8x128, .f32⟩
  | 5 => ⟨S_, .f32⟩
  | 6 => ⟨S8x4096x8, .f32⟩
  | 7 => ⟨S_, .f32⟩
  | 8 => ⟨S8x4096x8, .f32⟩
  | 9 => ⟨S8x4096x8, .f32⟩
  | 10 => ⟨S_, .f32⟩
  | 11 => ⟨S8x4096x8, .f32⟩
  | 12 => ⟨S8x4096x8, .f32⟩
  | 13 => ⟨S8x4096x8x1, .f32⟩
  | 14 => ⟨S8x4096x8x128, .f32⟩
  | 15 => ⟨S8x4096x8x128, .f32⟩
  | 16 => ⟨S8x4096x8x128, .f32⟩
  | 17 => ⟨S_, .i32⟩
  | 18 => ⟨S_, .i32⟩
  | 19 => ⟨S_, .f32⟩
  | 20 => ⟨S8x4096x8x128, .f32⟩
  | 21 => ⟨S8x4096x8x128, .f32⟩
  | 22 => ⟨S_, .f32⟩
  | 23 => ⟨S8x4096x8x128, .f32⟩
  | 24 => ⟨S8x4096x8x128, .f32⟩
  | 25 => ⟨S8x4096x8x128, .i32⟩
  | 26 => ⟨S_, .i32⟩
  | 27 => ⟨S8x4096x8x128, .i32⟩
  | 28 => ⟨S8x4096x8x128, .i32⟩
  | 29 => ⟨S_, .i32⟩
  | 30 => ⟨S8x4096x8x128, .i32⟩
  | 31 => ⟨S8x4096x8x128, .i32⟩
  | 32 => ⟨S_, .i32⟩
  | 33 => ⟨S8x4096x8x128, .i32⟩
  | 34 => ⟨S8x4096x8x128, .i32⟩
  | 35 => ⟨S_, .i32⟩
  | 36 => ⟨S8x4096x8x128, .i32⟩
  | 37 => ⟨S8x4096x8x128, .i32⟩
  | 38 => ⟨S_, .i32⟩
  | 39 => ⟨S8x4096x8x128, .i32⟩
  | 40 => ⟨S8x4096x8x128, .i32⟩
  | 41 => ⟨S_, .i32⟩
  | 42 => ⟨S8x4096x8x128, .i32⟩
  | 43 => ⟨S8x4096x8x128, .i32⟩
  | 44 => ⟨S_, .i32⟩
  | 45 => ⟨S8x4096x8x128, .i32⟩
  | 46 => ⟨S8x4096x8x128, .i32⟩
  | 47 => ⟨S_, .i32⟩
  | 48 => ⟨S8x4096x8x128, .i32⟩
  | 49 => ⟨S8x4096x8x128, .i32⟩
  | 50 => ⟨S_, .i32⟩
  | 51 => ⟨S8x4096x8x128, .i32⟩
  | 52 => ⟨S8x4096x8x128, .i32⟩
  | 53 => ⟨S8x4096x8x128, .i32⟩
  | 54 => ⟨S8x4096x8x128, .i32⟩
  | 55 => ⟨S8x4096x8x128, .i32⟩
  | 56 => ⟨S8x4096x8x128, .i32⟩
  | 57 => ⟨S8x4096x8x128, .i32⟩
  | 58 => ⟨S8x4096x8x128, .i32⟩
  | 59 => ⟨S_, .i32⟩
  | 60 => ⟨S8x4096x8x128, .i32⟩
  | 61 => ⟨S8x4096x8x128, .i32⟩
  | 62 => ⟨S8x4096x8x128, .i32⟩
  | 63 => ⟨S_, .i32⟩
  | 64 => ⟨S8x4096x8x128, .i32⟩
  | 65 => ⟨S8x4096x8x128, .i32⟩
  | 66 => ⟨S8x4096x8x128, .i32⟩
  | 67 => ⟨S_, .i32⟩
  | 68 => ⟨S8x4096x8x128, .i32⟩
  | 69 => ⟨S8x4096x8x128, .i32⟩
  | 70 => ⟨S8x4096x8x128, .i32⟩
  | 71 => ⟨S_, .i32⟩
  | 72 => ⟨S8x4096x8x128, .i32⟩
  | 73 => ⟨S8x4096x8x128, .i32⟩
  | 74 => ⟨S8x4096x8x128, .i32⟩
  | 75 => ⟨S_, .i32⟩
  | 76 => ⟨S8x4096x8x128, .i32⟩
  | 77 => ⟨S8x4096x8x128, .i32⟩
  | 78 => ⟨S8x4096x8x128, .i32⟩
  | 79 => ⟨S_, .i32⟩
  | 80 => ⟨S8x4096x8x128, .i32⟩
  | 81 => ⟨S8x4096x8x128, .i32⟩
  | 82 => ⟨S8x4096x8x128, .i32⟩
  | 83 => ⟨S8x4096x8x128, .i32⟩
  | 84 => ⟨S8x4096x8x128, .i32⟩
  | 85 => ⟨S8x4096x8x128, .i32⟩
  | 86 => ⟨S8x4096x8x128, .i32⟩
  | 87 => ⟨S8x4096x8x128, .i32⟩
  | 88 => ⟨S8x4096x8x128, .i32⟩
  | 89 => ⟨S_, .i32⟩
  | 90 => ⟨S8x4096x8x128, .i32⟩
  | 91 => ⟨S8x4096x8x128, .i32⟩
  | 92 => ⟨S8x4096x8x128, .i32⟩
  | 93 => ⟨S2048, .i32⟩
  | 94 => ⟨S2048x16x8x128, .i32⟩
  | 95 => ⟨S2048x16x8, .f32⟩
  | 96 => ⟨S_, .i32⟩
  | 97 => ⟨S2048x16x8x128, .i32⟩
  | 98 => ⟨S_, .i32⟩
  | 99 => ⟨S2048, .i32⟩
  | 100 => ⟨S2048, .i1⟩
  | 101 => ⟨S_, .i32⟩
  | 102 => ⟨S2048, .i32⟩
  | 103 => ⟨S2048, .i32⟩
  | 104 => ⟨S2048, .i32⟩
  | 105 => ⟨S2048x1, .i32⟩
  | 106 => ⟨S2048x16x8x128, .i32⟩
  | 107 => ⟨S_, .f32⟩
  | 108 => ⟨S2048x16x8, .f32⟩
  | 109 => ⟨S_, .i32⟩
  | 110 => ⟨S2048, .i32⟩
  | 111 => ⟨S2048, .i1⟩
  | 112 => ⟨S_, .i32⟩
  | 113 => ⟨S2048, .i32⟩
  | 114 => ⟨S2048, .i32⟩
  | 115 => ⟨S2048, .i32⟩
  | 116 => ⟨S2048x1, .i32⟩
  | 117 => ⟨S2048x16x8, .f32⟩
  | 118 => ⟨S_, .i32⟩
  | 119 => ⟨S2048, .i32⟩
  | 120 => ⟨S2048, .i1⟩
  | 121 => ⟨S_, .i32⟩
  | 122 => ⟨S2048, .i32⟩
  | 123 => ⟨S2048, .i32⟩
  | 124 => ⟨S2048, .i32⟩
  | 125 => ⟨S2048x1, .i32⟩
  | 126 => ⟨S2048x16x8x128, .i32⟩
  | 127 => ⟨S8x4096x8x128, .i32⟩
  | _ => ⟨S8x16x32x128, .f32⟩

abbrev hbmTy0_1 (i : Nat) : BufTy := match i % 128 with
  | 0 => ⟨S_, .i32⟩
  | 1 => ⟨S2048, .i32⟩
  | 2 => ⟨S2048, .i1⟩
  | 3 => ⟨S_, .i32⟩
  | 4 => ⟨S2048, .i32⟩
  | 5 => ⟨S2048, .i32⟩
  | 6 => ⟨S2048, .i32⟩
  | 7 => ⟨S2048x1, .i32⟩
  | 8 => ⟨S2048x16x8, .f32⟩
  | 9 => ⟨S8x4096x8, .f32⟩
  | 10 => ⟨S_, .i32⟩
  | 11 => ⟨S8x4096x8x128, .i32⟩
  | 12 => ⟨S8x4096x8x128, .i32⟩
  | 13 => ⟨S_, .i32⟩
  | 14 => ⟨S8x4096x8x128, .i32⟩
  | 15 => ⟨S8x4096x8x128, .i32⟩
  | 16 => ⟨S_, .i32⟩
  | 17 => ⟨S8x4096x8x128, .i32⟩
  | 18 => ⟨S8x4096x8x128, .i32⟩
  | 19 => ⟨S_, .i32⟩
  | 20 => ⟨S8x4096x8x128, .i32⟩
  | 21 => ⟨S8x4096x8x128, .i32⟩
  | 22 => ⟨S_, .i32⟩
  | 23 => ⟨S8x4096x8x128, .i32⟩
  | 24 => ⟨S8x4096x8x128, .i32⟩
  | 25 => ⟨S_, .i32⟩
  | 26 => ⟨S8x4096x8x128, .i32⟩
  | 27 => ⟨S8x4096x8x128, .i32⟩
  | 28 => ⟨S_, .i32⟩
  | 29 => ⟨S8x4096x8x128, .i32⟩
  | 30 => ⟨S8x4096x8x128, .i32⟩
  | 31 => ⟨S_, .i32⟩
  | 32 => ⟨S8x4096x8x128, .i32⟩
  | 33 => ⟨S8x4096x8x128, .i32⟩
  | 34 => ⟨S_, .i32⟩
  | 35 => ⟨S8x4096x8x128, .i32⟩
  | 36 => ⟨S8x4096x8x128, .i32⟩
  | 37 => ⟨S_, .i32⟩
  | 38 => ⟨S8x4096x8x128, .i32⟩
  | 39 => ⟨S8x4096x8x128, .i32⟩
  | 40 => ⟨S_, .i32⟩
  | 41 => ⟨S8x4096x8x128, .i32⟩
  | 42 => ⟨S8x4096x8x128, .i32⟩
  | 43 => ⟨S_, .i32⟩
  | 44 => ⟨S8x4096x8x128, .i32⟩
  | 45 => ⟨S8x4096x8x128, .i32⟩
  | 46 => ⟨S_, .i32⟩
  | 47 => ⟨S8x4096x8x128, .i32⟩
  | 48 => ⟨S8x4096x8x128, .i32⟩
  | 49 => ⟨S_, .i32⟩
  | 50 => ⟨S8x4096x8x128, .i32⟩
  | 51 => ⟨S8x4096x8x128, .i32⟩
  | 52 => ⟨S_, .i32⟩
  | 53 => ⟨S8x4096x8x128, .i32⟩
  | 54 => ⟨S8x4096x8x128, .i32⟩
  | 55 => ⟨S_, .i32⟩
  | 56 => ⟨S8x4096x8x128, .i32⟩
  | 57 => ⟨S8x4096x8x128, .i32⟩
  | 58 => ⟨S8x4096x8x128, .i32⟩
  | 59 => ⟨S8x4096x8x128, .i32⟩
  | 60 => ⟨S8x4096x8x128, .i32⟩
  | 61 => ⟨S8x4096x8x128, .i32⟩
  | 62 => ⟨S8x4096x8x128, .i32⟩
  | 63 => ⟨S8x4096x8x128, .i32⟩
  | 64 => ⟨S8x4096x8x128, .i32⟩
  | 65 => ⟨S8x4096x8x128, .i32⟩
  | 66 => ⟨S8x4096x8x128, .i32⟩
  | 67 => ⟨S_, .i32⟩
  | 68 => ⟨S8x4096x8x128, .i32⟩
  | 69 => ⟨S8x4096x8x128, .i32⟩
  | 70 => ⟨S8x4096x8x128, .i32⟩
  | 71 => ⟨S_, .i32⟩
  | 72 => ⟨S8x4096x8x128, .i32⟩
  | 73 => ⟨S8x4096x8x128, .i32⟩
  | 74 => ⟨S8x4096x8x128, .i32⟩
  | 75 => ⟨S8x4096x8x128, .i32⟩
  | 76 => ⟨S8x4096x8x128, .i32⟩
  | 77 => ⟨S8x4096x8x128, .i32⟩
  | 78 => ⟨S8x4096x8x128, .i32⟩
  | 79 => ⟨S8x4096x8x128, .i32⟩
  | 80 => ⟨S8x4096x8x128, .i32⟩
  | 81 => ⟨S8x4096x8x128, .i32⟩
  | 82 => ⟨S_, .i32⟩
  | 83 => ⟨S8x4096x8x128, .i32⟩
  | 84 => ⟨S8x4096x8x128, .i1⟩
  | 85 => ⟨S_, .i32⟩
  | 86 => ⟨S8x4096x8x128, .i32⟩
  | 87 => ⟨S8x4096x8x128, .i1⟩
  | 88 => ⟨S8x4096x8x128, .i1⟩
  | 89 => ⟨S_, .i32⟩
  | 90 => ⟨S8x4096x8x128, .i32⟩
  | 91 => ⟨S8x4096x8x128, .i32⟩
  | 92 => ⟨S_, .i32⟩
  | 93 => ⟨S8x4096x8x128, .i32⟩
  | 94 => ⟨S8x4096x8x128, .i32⟩
  | 95 => ⟨S_, .i32⟩
  | 96 => ⟨S8x4096x8x128, .i32⟩
  | 97 => ⟨S8x4096x8x128, .i32⟩
  | 98 => ⟨S_, .i32⟩
  | 99 => ⟨S8x4096x8x128, .i32⟩
  | 100 => ⟨S8x4096x8x128, .i32⟩
  | 101 => ⟨S8x4096x8x128, .i32⟩
  | 102 => ⟨S_, .i32⟩
  | 103 => ⟨S8x4096x8x128, .i32⟩
  | 104 => ⟨S8x4096x8x128, .i32⟩
  | 105 => ⟨S_, .i32⟩
  | 106 => ⟨S8x4096x8x128, .i32⟩
  | 107 => ⟨S8x4096x8x128, .i32⟩
  | 108 => ⟨S_, .i32⟩
  | 109 => ⟨S8x4096x8x128, .i32⟩
  | 110 => ⟨S8x4096x8x128, .i32⟩
  | 111 => ⟨S_, .i32⟩
  | 112 => ⟨S8x4096x8x128, .i32⟩
  | 113 => ⟨S8x4096x8x128, .i32⟩
  | 114 => ⟨S_, .i32⟩
  | 115 => ⟨S8x4096x8x128, .i32⟩
  | 116 => ⟨S8x4096x8x128, .i32⟩
  | 117 => ⟨S8x4096x8x128, .i32⟩
  | 118 => ⟨S_, .i32⟩
  | 119 => ⟨S8x4096x8x128, .i32⟩
  | 120 => ⟨S8x4096x8x128, .i32⟩
  | 121 => ⟨S_, .i32⟩
  | 122 => ⟨S8x4096x8x128, .i32⟩
  | 123 => ⟨S8x4096x8x128, .i32⟩
  | 124 => ⟨S_, .i32⟩
  | 125 => ⟨S8x4096x8x128, .i32⟩
  | 126 => ⟨S8x4096x8x128, .i32⟩
  | 127 => ⟨S8x4096x8x128, .i32⟩
  | _ => ⟨S8x16x32x128, .f32⟩

abbrev hbmTy0_2 (i : Nat) : BufTy := match i % 128 with
  | 0 => ⟨S_, .i32⟩
  | 1 => ⟨S8x4096x8x128, .i32⟩
  | 2 => ⟨S8x4096x8x128, .i32⟩
  | 3 => ⟨S_, .i32⟩
  | 4 => ⟨S8x4096x8x128, .i32⟩
  | 5 => ⟨S8x4096x8x128, .i32⟩
  | 6 => ⟨S_, .i32⟩
  | 7 => ⟨S8x4096x8x128, .i32⟩
  | 8 => ⟨S8x4096x8x128, .i32⟩
  | 9 => ⟨S8x4096x8x128, .i32⟩
  | 10 => ⟨S8x4096x8x128, .f32⟩
  | 11 => ⟨S_, .f32⟩
  | 12 => ⟨S8x4096x8x128, .f32⟩
  | 13 => ⟨S8x4096x8x128, .f32⟩
  | 14 => ⟨S8x4096x8x1, .f32⟩
  | 15 => ⟨S8x4096x8x128, .f32⟩
  | 16 => ⟨S8x4096x8x128, .f32⟩
  | 17 => ⟨S8x4096x8x128, .f32⟩
  | 18 => ⟨S_, .f32⟩
  | 19 => ⟨S8x4096x8, .f32⟩
  | 20 => ⟨S_, .f32⟩
  | 21 => ⟨S8x4096x8, .f32⟩
  | 22 => ⟨S8x4096x8, .f32⟩
  | 23 => ⟨S_, .f32⟩
  | 24 => ⟨S8x4096x8, .f32⟩
  | 25 => ⟨S8x4096x8, .f32⟩
  | 26 => ⟨S8x4096x8x1, .f32⟩
  | 27 => ⟨S8x4096x8x128, .f32⟩
  | 28 => ⟨S8x4096x8x128, .f32⟩
  | 29 => ⟨S8x4096x8x128, .f32⟩
  | 30 => ⟨S_, .i32⟩
  | 31 => ⟨S_, .i32⟩
  | 32 => ⟨S_, .f32⟩
  | 33 => ⟨S8x4096x8x128, .f32⟩
  | 34 => ⟨S8x4096x8x128, .f32⟩
  | 35 => ⟨S_, .f32⟩
  | 36 => ⟨S8x4096x8x128, .f32⟩
  | 37 => ⟨S8x4096x8x128, .f32⟩
  | 38 => ⟨S8x4096x8x128, .i32⟩
  | 39 => ⟨S_, .i32⟩
  | 40 => ⟨S8x4096x8x128, .i32⟩
  | 41 => ⟨S8x4096x8x128, .i32⟩
  | 42 => ⟨S_, .i32⟩
  | 43 => ⟨S8x4096x8x128, .i32⟩
  | 44 => ⟨S8x4096x8x128, .i32⟩
  | 45 => ⟨S_, .i32⟩
  | 46 => ⟨S8x4096x8x128, .i32⟩
  | 47 => ⟨S8x4096x8x128, .i32⟩
  | 48 => ⟨S_, .i32⟩
  | 49 => ⟨S8x4096x8x128, .i32⟩
  | 50 => ⟨S8x4096x8x128, .i32⟩
  | 51 => ⟨S_, .i32⟩
  | 52 => ⟨S8x4096x8x128, .i32⟩
  | 53 => ⟨S8x4096x8x128, .i32⟩
  | 54 => ⟨S_, .i32⟩
  | 55 => ⟨S8x4096x8x128, .i32⟩
  | 56 => ⟨S8x4096x8x128, .i32⟩
  | 57 => ⟨S_, .i32⟩
  | 58 => ⟨S8x4096x8x128, .i32⟩
  | 59 => ⟨S8x4096x8x128, .i32⟩
  | 60 => ⟨S_, .i32⟩
  | 61 => ⟨S8x4096x8x128, .i32⟩
  | 62 => ⟨S8x4096x8x128, .i32⟩
  | 63 => ⟨S_, .i32⟩
  | 64 => ⟨S8x4096x8x128, .i32⟩
  | 65 => ⟨S8x4096x8x128, .i32⟩
  | 66 => ⟨S8x4096x8x128, .i32⟩
  | 67 => ⟨S8x4096x8x128, .i32⟩
  | 68 => ⟨S8x4096x8x128, .i32⟩
  | 69 => ⟨S8x4096x8x128, .i32⟩
  | 70 => ⟨S8x4096x8x128, .i32⟩
  | 71 => ⟨S8x4096x8x128, .i32⟩
  | 72 => ⟨S_, .i32⟩
  | 73 => ⟨S8x4096x8x128, .i32⟩
  | 74 => ⟨S8x4096x8x128, .i32⟩
  | 75 => ⟨S8x4096x8x128, .i32⟩
  | 76 => ⟨S_, .i32⟩
  | 77 => ⟨S8x4096x8x128, .i32⟩
  | 78 => ⟨S8x4096x8x128, .i32⟩
  | 79 => ⟨S8x4096x8x128, .i32⟩
  | 80 => ⟨S_, .i32⟩
  | 81 => ⟨S8x4096x8x128, .i32⟩
  | 82 => ⟨S8x4096x8x128, .i32⟩
  | 83 => ⟨S8x4096x8x128, .i32⟩
  | 84 => ⟨S_, .i32⟩
  | 85 => ⟨S8x4096x8x128, .i32⟩
  | 86 => ⟨S8x4096x8x128, .i32⟩
  | 87 => ⟨S8x4096x8x128, .i32⟩
  | 88 => ⟨S_, .i32⟩
  | 89 => ⟨S8x4096x8x128, .i32⟩
  | 90 => ⟨S8x4096x8x128, .i32⟩
  | 91 => ⟨S8x4096x8x128, .i32⟩
  | 92 => ⟨S_, .i32⟩
  | 93 => ⟨S8x4096x8x128, .i32⟩
  | 94 => ⟨S8x4096x8x128, .i32⟩
  | 95 => ⟨S8x4096x8x128, .i32⟩
  | 96 => ⟨S8x4096x8x128, .i32⟩
  | 97 => ⟨S8x4096x8x128, .i32⟩
  | 98 => ⟨S8x4096x8x128, .i32⟩
  | 99 => ⟨S8x4096x8x128, .i32⟩
  | 100 => ⟨S8x4096x8x128, .i32⟩
  | 101 => ⟨S8x4096x8x128, .i32⟩
  | 102 => ⟨S_, .i32⟩
  | 103 => ⟨S8x4096x8x128, .i32⟩
  | 104 => ⟨S8x4096x8x128, .i32⟩
  | 105 => ⟨S8x4096x8x128, .i32⟩
  | 106 => ⟨S2048, .i32⟩
  | 107 => ⟨S2048x16x8x128, .i32⟩
  | 108 => ⟨S2048x16x8, .f32⟩
  | 109 => ⟨S_, .i32⟩
  | 110 => ⟨S2048x16x8x128, .i32⟩
  | 111 => ⟨S_, .i32⟩
  | 112 => ⟨S2048, .i32⟩
  | 113 => ⟨S2048, .i1⟩
  | 114 => ⟨S_, .i32⟩
  | 115 => ⟨S2048, .i32⟩
  | 116 => ⟨S2048, .i32⟩
  | 117 => ⟨S2048, .i32⟩
  | 118 => ⟨S2048x1, .i32⟩
  | 119 => ⟨S2048x16x8x128, .i32⟩
  | 120 => ⟨S_, .f32⟩
  | 121 => ⟨S2048x16x8, .f32⟩
  | 122 => ⟨S_, .i32⟩
  | 123 => ⟨S2048, .i32⟩
  | 124 => ⟨S2048, .i1⟩
  | 125 => ⟨S_, .i32⟩
  | 126 => ⟨S2048, .i32⟩
  | 127 => ⟨S2048, .i32⟩
  | _ => ⟨S8x16x32x128, .f32⟩

abbrev hbmTy0_3 (i : Nat) : BufTy := match i % 128 with
  | 0 => ⟨S2048, .i32⟩
  | 1 => ⟨S2048x1, .i32⟩
  | 2 => ⟨S2048x16x8, .f32⟩
  | 3 => ⟨S_, .i32⟩
  | 4 => ⟨S2048, .i32⟩
  | 5 => ⟨S2048, .i1⟩
  | 6 => ⟨S_, .i32⟩
  | 7 => ⟨S2048, .i32⟩
  | 8 => ⟨S2048, .i32⟩
  | 9 => ⟨S2048, .i32⟩
  | 10 => ⟨S2048x1, .i32⟩
  | 11 => ⟨S2048x16x8x128, .i32⟩
  | 12 => ⟨S8x4096x8x128, .i32⟩
  | 13 => ⟨S_, .i32⟩
  | 14 => ⟨S2048, .i32⟩
  | 15 => ⟨S2048, .i1⟩
  | 16 => ⟨S_, .i32⟩
  | 17 => ⟨S2048, .i32⟩
  | 18 => ⟨S2048, .i32⟩
  | 19 => ⟨S2048, .i32⟩
  | 20 => ⟨S2048x1, .i32⟩
  | 21 => ⟨S2048x16x8, .f32⟩
  | 22 => ⟨S8x4096x8, .f32⟩
  | 23 => ⟨S_, .i32⟩
  | 24 => ⟨S8x4096x8x128, .i32⟩
  | 25 => ⟨S8x4096x8x128, .i32⟩
  | 26 => ⟨S_, .i32⟩
  | 27 => ⟨S8x4096x8x128, .i32⟩
  | 28 => ⟨S8x4096x8x128, .i32⟩
  | 29 => ⟨S_, .i32⟩
  | 30 => ⟨S8x4096x8x128, .i32⟩
  | 31 => ⟨S8x4096x8x128, .i32⟩
  | 32 => ⟨S_, .i32⟩
  | 33 => ⟨S8x4096x8x128, .i32⟩
  | 34 => ⟨S8x4096x8x128, .i32⟩
  | 35 => ⟨S_, .i32⟩
  | 36 => ⟨S8x4096x8x128, .i32⟩
  | 37 => ⟨S8x4096x8x128, .i32⟩
  | 38 => ⟨S_, .i32⟩
  | 39 => ⟨S8x4096x8x128, .i32⟩
  | 40 => ⟨S8x4096x8x128, .i32⟩
  | 41 => ⟨S_, .i32⟩
  | 42 => ⟨S8x4096x8x128, .i32⟩
  | 43 => ⟨S8x4096x8x128, .i32⟩
  | 44 => ⟨S_, .i32⟩
  | 45 => ⟨S8x4096x8x128, .i32⟩
  | 46 => ⟨S8x4096x8x128, .i32⟩
  | 47 => ⟨S_, .i32⟩
  | 48 => ⟨S8x4096x8x128, .i32⟩
  | 49 => ⟨S8x4096x8x128, .i32⟩
  | 50 => ⟨S_, .i32⟩
  | 51 => ⟨S8x4096x8x128, .i32⟩
  | 52 => ⟨S8x4096x8x128, .i32⟩
  | 53 => ⟨S_, .i32⟩
  | 54 => ⟨S8x4096x8x128, .i32⟩
  | 55 => ⟨S8x4096x8x128, .i32⟩
  | 56 => ⟨S_, .i32⟩
  | 57 => ⟨S8x4096x8x128, .i32⟩
  | 58 => ⟨S8x4096x8x128, .i32⟩
  | 59 => ⟨S_, .i32⟩
  | 60 => ⟨S8x4096x8x128, .i32⟩
  | 61 => ⟨S8x4096x8x128, .i32⟩
  | 62 => ⟨S_, .i32⟩
  | 63 => ⟨S8x4096x8x128, .i32⟩
  | 64 => ⟨S8x4096x8x128, .i32⟩
  | 65 => ⟨S_, .i32⟩
  | 66 => ⟨S8x4096x8x128, .i32⟩
  | 67 => ⟨S8x4096x8x128, .i32⟩
  | 68 => ⟨S_, .i32⟩
  | 69 => ⟨S8x4096x8x128, .i32⟩
  | 70 => ⟨S8x4096x8x128, .i32⟩
  | 71 => ⟨S8x4096x8x128, .i32⟩
  | 72 => ⟨S8x4096x8x128, .i32⟩
  | 73 => ⟨S8x4096x8x128, .i32⟩
  | 74 => ⟨S8x4096x8x128, .i32⟩
  | 75 => ⟨S8x4096x8x128, .i32⟩
  | 76 => ⟨S8x4096x8x128, .i32⟩
  | 77 => ⟨S8x4096x8x128, .i32⟩
  | 78 => ⟨S8x4096x8x128, .i32⟩
  | 79 => ⟨S8x4096x8x128, .i32⟩
  | 80 => ⟨S_, .i32⟩
  | 81 => ⟨S8x4096x8x128, .i32⟩
  | 82 => ⟨S8x4096x8x128, .i32⟩
  | 83 => ⟨S8x4096x8x128, .i32⟩
  | 84 => ⟨S_, .i32⟩
  | 85 => ⟨S8x4096x8x128, .i32⟩
  | 86 => ⟨S8x4096x8x128, .i32⟩
  | 87 => ⟨S8x4096x8x128, .i32⟩
  | 88 => ⟨S8x4096x8x128, .i32⟩
  | 89 => ⟨S8x4096x8x128, .i32⟩
  | 90 => ⟨S8x4096x8x128, .i32⟩
  | 91 => ⟨S8x4096x8x128, .i32⟩
  | 92 => ⟨S8x4096x8x128, .i32⟩
  | 93 => ⟨S8x4096x8x128, .i32⟩
  | 94 => ⟨S8x4096x8x128, .i32⟩
  | 95 => ⟨S_, .i32⟩
  | 96 => ⟨S8x4096x8x128, .i32⟩
  | 97 => ⟨S8x4096x8x128, .i1⟩
  | 98 => ⟨S_, .i32⟩
  | 99 => ⟨S8x4096x8x128, .i32⟩
  | 100 => ⟨S8x4096x8x128, .i1⟩
  | 101 => ⟨S8x4096x8x128, .i1⟩
  | 102 => ⟨S_, .i32⟩
  | 103 => ⟨S8x4096x8x128, .i32⟩
  | 104 => ⟨S8x4096x8x128, .i32⟩
  | 105 => ⟨S_, .i32⟩
  | 106 => ⟨S8x4096x8x128, .i32⟩
  | 107 => ⟨S8x4096x8x128, .i32⟩
  | 108 => ⟨S_, .i32⟩
  | 109 => ⟨S8x4096x8x128, .i32⟩
  | 110 => ⟨S8x4096x8x128, .i32⟩
  | 111 => ⟨S_, .i32⟩
  | 112 => ⟨S8x4096x8x128, .i32⟩
  | 113 => ⟨S8x4096x8x128, .i32⟩
  | 114 => ⟨S8x4096x8x128, .i32⟩
  | 115 => ⟨S_, .i32⟩
  | 116 => ⟨S8x4096x8x128, .i32⟩
  | 117 => ⟨S8x4096x8x128, .i32⟩
  | 118 => ⟨S_, .i32⟩
  | 119 => ⟨S8x4096x8x128, .i32⟩
  | 120 => ⟨S8x4096x8x128, .i32⟩
  | 121 => ⟨S_, .i32⟩
  | 122 => ⟨S8x4096x8x128, .i32⟩
  | 123 => ⟨S8x4096x8x128, .i32⟩
  | 124 => ⟨S_, .i32⟩
  | 125 => ⟨S8x4096x8x128, .i32⟩
  | 126 => ⟨S8x4096x8x128, .i32⟩
  | 127 => ⟨S_, .i32⟩
  | _ => ⟨S8x16x32x128, .f32⟩

abbrev hbmTy0_4 (i : Nat) : BufTy := match i % 128 with
  | 0 => ⟨S8x4096x8x128, .i32⟩
  | 1 => ⟨S8x4096x8x128, .i32⟩
  | 2 => ⟨S8x4096x8x128, .i32⟩
  | 3 => ⟨S_, .i32⟩
  | 4 => ⟨S8x4096x8x128, .i32⟩
  | 5 => ⟨S8x4096x8x128, .i32⟩
  | 6 => ⟨S_, .i32⟩
  | 7 => ⟨S8x4096x8x128, .i32⟩
  | 8 => ⟨S8x4096x8x128, .i32⟩
  | 9 => ⟨S_, .i32⟩
  | 10 => ⟨S8x4096x8x128, .i32⟩
  | 11 => ⟨S8x4096x8x128, .i32⟩
  | 12 => ⟨S8x4096x8x128, .i32⟩
  | 13 => ⟨S_, .i32⟩
  | 14 => ⟨S8x4096x8x128, .i32⟩
  | 15 => ⟨S8x4096x8x128, .i32⟩
  | 16 => ⟨S_, .i32⟩
  | 17 => ⟨S8x4096x8x128, .i32⟩
  | 18 => ⟨S8x4096x8x128, .i32⟩
  | 19 => ⟨S_, .i32⟩
  | 20 => ⟨S8x4096x8x128, .i32⟩
  | 21 => ⟨S8x4096x8x128, .i32⟩
  | 22 => ⟨S8x4096x8x128, .i32⟩
  | 23 => ⟨S8x4096x8x128, .f32⟩
  | 24 => ⟨S_, .f32⟩
  | 25 => ⟨S8x4096x8x128, .f32⟩
  | 26 => ⟨S8x4096x8x128, .f32⟩
  | 27 => ⟨S8x4096x8x1, .f32⟩
  | 28 => ⟨S8x4096x8x128, .f32⟩
  | 29 => ⟨S8x4096x8x128, .f32⟩
  | 30 => ⟨S8x16x8x4x128, .f32⟩
  | 31 => ⟨S8x8x4096x16x4, .f32⟩
  | 32 => ⟨S8x8x4x16x4096, .f32⟩
  | 33 => ⟨S_, .f32⟩
  | 34 => ⟨S_, .f32⟩
  | 35 => ⟨S8x8x4x16x4096, .f32⟩
  | 36 => ⟨S8x8x4x16x4096, .f32⟩
  | 37 => ⟨S16, .i32⟩
  | 38 => ⟨S_, .i32⟩
  | 39 => ⟨S16, .i32⟩
  | 40 => ⟨S16, .i32⟩
  | 41 => ⟨S4096, .i32⟩
  | 42 => ⟨S1x4096, .i32⟩
  | 43 => ⟨S16x1, .i32⟩
  | 44 => ⟨S16x4096, .i32⟩
  | 45 => ⟨S16x4096, .i32⟩
  | 46 => ⟨S16x4096, .i1⟩
  | 47 => ⟨S1x1x1x16x4096, .i1⟩
  | 48 => ⟨S_, .f32⟩
  | 49 => ⟨S8x8x4x16x4096, .i1⟩
  | 50 => ⟨S8x8x4x16x4096, .f32⟩
  | 51 => ⟨S8x8x4x16x4096, .f32⟩
  | 52 => ⟨S_, .f32⟩
  | 53 => ⟨S8x8x4x16, .f32⟩
  | 54 => ⟨S_, .f32⟩
  | 55 => ⟨S8x8x4x16, .f32⟩
  | 56 => ⟨S8x8x4x16, .f32⟩
  | 57 => ⟨S8x8x4x16x1, .f32⟩
  | 58 => ⟨S8x8x4x16x4096, .f32⟩
  | 59 => ⟨S8x8x4x16x4096, .f32⟩
  | 60 => ⟨S8x8x4x16x4096, .f32⟩
  | 61 => ⟨S_, .f32⟩
  | 62 => ⟨S8x8x4x16, .f32⟩
  | 63 => ⟨S8x8x4x16x1, .f32⟩
  | 64 => ⟨S8x8x4x16x4096, .f32⟩
  | 65 => ⟨S8x8x4x16x4096, .f32⟩
  | 66 => ⟨S8x8x128x4x16, .f32⟩
  | 67 => ⟨S8x16x8x4x128, .f32⟩
  | 68 => ⟨S8x16x32x128, .f32⟩
  | _ => ⟨S8x16x32x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x16x32x128, .f32⟩

abbrev bufTy : (tb : Table) → Fin (tcTables nBuf tb) → BufTy
  | .hbm, ⟨i, _⟩ => hbmTy i
  | _, _ => ⟨S8x16x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_c_5 : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_v18 : Ref sig .tc := ⟨.hbm, 36, rfl⟩
abbrev main_v19 : Ref sig .tc := ⟨.hbm, 37, rfl⟩
abbrev main_c_7 : Ref sig .tc := ⟨.hbm, 38, rfl⟩
abbrev main_v20 : Ref sig .tc := ⟨.hbm, 39, rfl⟩
abbrev main_v21 : Ref sig .tc := ⟨.hbm, 40, rfl⟩
abbrev main_c_8 : Ref sig .tc := ⟨.hbm, 41, rfl⟩
abbrev main_v22 : Ref sig .tc := ⟨.hbm, 42, rfl⟩
abbrev main_v23 : Ref sig .tc := ⟨.hbm, 43, rfl⟩
abbrev main_c_9 : Ref sig .tc := ⟨.hbm, 44, rfl⟩
abbrev main_v24 : Ref sig .tc := ⟨.hbm, 45, rfl⟩
abbrev main_v25 : Ref sig .tc := ⟨.hbm, 46, rfl⟩
abbrev main_c_10 : Ref sig .tc := ⟨.hbm, 47, rfl⟩
abbrev main_v26 : Ref sig .tc := ⟨.hbm, 48, rfl⟩
abbrev main_v27 : Ref sig .tc := ⟨.hbm, 49, rfl⟩
abbrev main_c_11 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_12 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_13 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_14 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_15 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_16 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_17 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_18 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_19 : Ref sig .tc := ⟨.hbm, 96, rfl⟩
abbrev main_v66 : Ref sig .tc := ⟨.hbm, 97, rfl⟩
abbrev main_c_20 : Ref sig .tc := ⟨.hbm, 98, rfl⟩
abbrev main_v67 : Ref sig .tc := ⟨.hbm, 99, rfl⟩
abbrev main_v68 : Ref sig .tc := ⟨.hbm, 100, rfl⟩
abbrev main_c_21 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_22 : Ref sig .tc := ⟨.hbm, 107, rfl⟩
abbrev main_v74 : Ref sig .tc := ⟨.hbm, 108, rfl⟩
abbrev main_c_23 : Ref sig .tc := ⟨.hbm, 109, rfl⟩
abbrev main_v75 : Ref sig .tc := ⟨.hbm, 110, rfl⟩
abbrev main_v76 : Ref sig .tc := ⟨.hbm, 111, rfl⟩
abbrev main_c_24 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_25 : Ref sig .tc := ⟨.hbm, 118, rfl⟩
abbrev main_v82 : Ref sig .tc := ⟨.hbm, 119, rfl⟩
abbrev main_v83 : Ref sig .tc := ⟨.hbm, 120, rfl⟩
abbrev main_c_26 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_27 : Ref sig .tc := ⟨.hbm, 128, rfl⟩
abbrev main_v90 : Ref sig .tc := ⟨.hbm, 129, rfl⟩
abbrev main_v91 : Ref sig .tc := ⟨.hbm, 130, rfl⟩
abbrev main_c_28 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_29 : Ref sig .tc := ⟨.hbm, 138, rfl⟩
abbrev main_v98 : Ref sig .tc := ⟨.hbm, 139, rfl⟩
abbrev main_v99 : Ref sig .tc := ⟨.hbm, 140, rfl⟩
abbrev main_c_30 : Ref sig .tc := ⟨.hbm, 141, rfl⟩
abbrev main_v100 : Ref sig .tc := ⟨.hbm, 142, rfl⟩
abbrev main_v101 : Ref sig .tc := ⟨.hbm, 143, rfl⟩
abbrev main_c_31 : Ref sig .tc := ⟨.hbm, 144, rfl⟩
abbrev main_v102 : Ref sig .tc := ⟨.hbm, 145, rfl⟩
abbrev main_v103 : Ref sig .tc := ⟨.hbm, 146, rfl⟩
abbrev main_c_32 : Ref sig .tc := ⟨.hbm, 147, rfl⟩
abbrev main_v104 : Ref sig .tc := ⟨.hbm, 148, rfl⟩
abbrev main_v105 : Ref sig .tc := ⟨.hbm, 149, rfl⟩
abbrev main_c_33 : Ref sig .tc := ⟨.hbm, 150, rfl⟩
abbrev main_v106 : Ref sig .tc := ⟨.hbm, 151, rfl⟩
abbrev main_v107 : Ref sig .tc := ⟨.hbm, 152, rfl⟩
abbrev main_c_34 : Ref sig .tc := ⟨.hbm, 153, rfl⟩
abbrev main_v108 : Ref sig .tc := ⟨.hbm, 154, rfl⟩
abbrev main_v109 : Ref sig .tc := ⟨.hbm, 155, rfl⟩
abbrev main_c_35 : Ref sig .tc := ⟨.hbm, 156, rfl⟩
abbrev main_v110 : Ref sig .tc := ⟨.hbm, 157, rfl⟩
abbrev main_v111 : Ref sig .tc := ⟨.hbm, 158, rfl⟩
abbrev main_c_36 : Ref sig .tc := ⟨.hbm, 159, rfl⟩
abbrev main_v112 : Ref sig .tc := ⟨.hbm, 160, rfl⟩
abbrev main_v113 : Ref sig .tc := ⟨.hbm, 161, rfl⟩
abbrev main_c_37 : Ref sig .tc := ⟨.hbm, 162, rfl⟩
abbrev main_v114 : Ref sig .tc := ⟨.hbm, 163, rfl⟩
abbrev main_v115 : Ref sig .tc := ⟨.hbm, 164, rfl⟩
abbrev main_c_38 : Ref sig .tc := ⟨.hbm, 165, rfl⟩
abbrev main_v116 : Ref sig .tc := ⟨.hbm, 166, rfl⟩
abbrev main_v117 : Ref sig .tc := ⟨.hbm, 167, rfl⟩
abbrev main_c_39 : Ref sig .tc := ⟨.hbm, 168, rfl⟩
abbrev main_v118 : Ref sig .tc := ⟨.hbm, 169, rfl⟩
abbrev main_v119 : Ref sig .tc := ⟨.hbm, 170, rfl⟩
abbrev main_c_40 : Ref sig .tc := ⟨.hbm, 171, rfl⟩
abbrev main_v120 : Ref sig .tc := ⟨.hbm, 172, rfl⟩
abbrev main_v121 : Ref sig .tc := ⟨.hbm, 173, rfl⟩
abbrev main_c_41 : Ref sig .tc := ⟨.hbm, 174, rfl⟩
abbrev main_v122 : Ref sig .tc := ⟨.hbm, 175, rfl⟩
abbrev main_v123 : Ref sig .tc := ⟨.hbm, 176, rfl⟩
abbrev main_c_42 : Ref sig .tc := ⟨.hbm, 177, rfl⟩
abbrev main_v124 : Ref sig .tc := ⟨.hbm, 178, rfl⟩
abbrev main_v125 : Ref sig .tc := ⟨.hbm, 179, rfl⟩
abbrev main_c_43 : Ref sig .tc := ⟨.hbm, 180, rfl⟩
abbrev main_v126 : Ref sig .tc := ⟨.hbm, 181, rfl⟩
abbrev main_v127 : Ref sig .tc := ⟨.hbm, 182, rfl⟩
abbrev main_c_44 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_c_45 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_c_46 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_c_47 : Ref sig .tc := ⟨.hbm, 210, rfl⟩
abbrev main_v152 : Ref sig .tc := ⟨.hbm, 211, rfl⟩
abbrev main_v153 : Ref sig .tc := ⟨.hbm, 212, rfl⟩
abbrev main_c_48 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_c_49 : Ref sig .tc := ⟨.hbm, 217, rfl⟩
abbrev main_v157 : Ref sig .tc := ⟨.hbm, 218, rfl⟩
abbrev main_v158 : Ref sig .tc := ⟨.hbm, 219, rfl⟩
abbrev main_c_50 : Ref sig .tc := ⟨.hbm, 220, rfl⟩
abbrev main_v159 : Ref sig .tc := ⟨.hbm, 221, rfl⟩
abbrev main_v160 : Ref sig .tc := ⟨.hbm, 222, rfl⟩
abbrev main_c_51 : Ref sig .tc := ⟨.hbm, 223, rfl⟩
abbrev main_v161 : Ref sig .tc := ⟨.hbm, 224, rfl⟩
abbrev main_v162 : Ref sig .tc := ⟨.hbm, 225, rfl⟩
abbrev main_c_52 : Ref sig .tc := ⟨.hbm, 226, rfl⟩
abbrev main_call2_v0 : Ref sig .tc := ⟨.hbm, 227, rfl⟩
abbrev main_v163 : Ref sig .tc := ⟨.hbm, 228, rfl⟩
abbrev main_v164 : Ref sig .tc := ⟨.hbm, 229, rfl⟩
abbrev main_c_53 : Ref sig .tc := ⟨.hbm, 230, rfl⟩
abbrev main_v165 : Ref sig .tc := ⟨.hbm, 231, rfl⟩
abbrev main_v166 : Ref sig .tc := ⟨.hbm, 232, rfl⟩
abbrev main_c_54 : Ref sig .tc := ⟨.hbm, 233, rfl⟩
abbrev main_v167 : Ref sig .tc := ⟨.hbm, 234, rfl⟩
abbrev main_v168 : Ref sig .tc := ⟨.hbm, 235, rfl⟩
abbrev main_c_55 : Ref sig .tc := ⟨.hbm, 236, rfl⟩
abbrev main_v169 : Ref sig .tc := ⟨.hbm, 237, rfl⟩
abbrev main_v170 : Ref sig .tc := ⟨.hbm, 238, rfl⟩
abbrev main_c_56 : Ref sig .tc := ⟨.hbm, 239, rfl⟩
abbrev main_v171 : Ref sig .tc := ⟨.hbm, 240, rfl⟩
abbrev main_v172 : Ref sig .tc := ⟨.hbm, 241, rfl⟩
abbrev main_c_57 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_c_58 : Ref sig .tc := ⟨.hbm, 246, rfl⟩
abbrev main_v176 : Ref sig .tc := ⟨.hbm, 247, rfl⟩
abbrev main_v177 : Ref sig .tc := ⟨.hbm, 248, rfl⟩
abbrev main_c_59 : Ref sig .tc := ⟨.hbm, 249, rfl⟩
abbrev main_v178 : Ref sig .tc := ⟨.hbm, 250, rfl⟩
abbrev main_v179 : Ref sig .tc := ⟨.hbm, 251, rfl⟩
abbrev main_c_60 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_c_61 : Ref sig .tc := ⟨.hbm, 256, rfl⟩
abbrev main_v183 : Ref sig .tc := ⟨.hbm, 257, rfl⟩
abbrev main_v184 : Ref sig .tc := ⟨.hbm, 258, rfl⟩
abbrev main_c_62 : Ref sig .tc := ⟨.hbm, 259, rfl⟩
abbrev main_v185 : Ref sig .tc := ⟨.hbm, 260, rfl⟩
abbrev main_v186 : Ref sig .tc := ⟨.hbm, 261, rfl⟩
abbrev main_c_63 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_cst_64 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_cst_65 : Ref sig .tc := ⟨.hbm, 274, rfl⟩
abbrev main_v197 : Ref sig .tc := ⟨.hbm, 275, rfl⟩
abbrev main_cst_66 : Ref sig .tc := ⟨.hbm, 276, rfl⟩
abbrev main_v198 : Ref sig .tc := ⟨.hbm, 277, rfl⟩
abbrev main_v199 : Ref sig .tc := ⟨.hbm, 278, rfl⟩
abbrev main_cst_67 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_v203 : Ref sig .tc := ⟨.hbm, 283, rfl⟩
abbrev main_v204 : Ref sig .tc := ⟨.hbm, 284, rfl⟩
abbrev main_v205 : Ref sig .tc := ⟨.hbm, 285, rfl⟩
abbrev main_c_68 : Ref sig .tc := ⟨.hbm, 286, rfl⟩
abbrev main_c_69 : Ref sig .tc := ⟨.hbm, 287, rfl⟩
abbrev main_call4_v0 : Ref sig .tc := ⟨.hbm, 288, rfl⟩
abbrev main_call4_v1 : Ref sig .tc := ⟨.hbm, 289, rfl⟩
abbrev main_call4_v2 : Ref sig .tc := ⟨.hbm, 290, rfl⟩
abbrev main_call4_v3 : Ref sig .tc := ⟨.hbm, 291, rfl⟩
abbrev main_call4_v4 : Ref sig .tc := ⟨.hbm, 292, rfl⟩
abbrev main_v206 : Ref sig .tc := ⟨.hbm, 293, rfl⟩
abbrev main_v207 : Ref sig .tc := ⟨.hbm, 294, rfl⟩
abbrev main_c_70 : Ref sig .tc := ⟨.hbm, 295, rfl⟩
abbrev main_v208 : Ref sig .tc := ⟨.hbm, 296, rfl⟩
abbrev main_v209 : Ref sig .tc := ⟨.hbm, 297, rfl⟩
abbrev main_c_71 : Ref sig .tc := ⟨.hbm, 298, rfl⟩
abbrev main_v210 : Ref sig .tc := ⟨.hbm, 299, rfl⟩
abbrev main_v211 : Ref sig .tc := ⟨.hbm, 300, rfl⟩
abbrev main_c_72 : Ref sig .tc := ⟨.hbm, 301, rfl⟩
abbrev main_v212 : Ref sig .tc := ⟨.hbm, 302, rfl⟩
abbrev main_v213 : Ref sig .tc := ⟨.hbm, 303, rfl⟩
abbrev main_c_73 : Ref sig .tc := ⟨.hbm, 304, rfl⟩
abbrev main_v214 : Ref sig .tc := ⟨.hbm, 305, rfl⟩
abbrev main_v215 : Ref sig .tc := ⟨.hbm, 306, rfl⟩
abbrev main_c_74 : Ref sig .tc := ⟨.hbm, 307, rfl⟩
abbrev main_v216 : Ref sig .tc := ⟨.hbm, 308, rfl⟩
abbrev main_v217 : Ref sig .tc := ⟨.hbm, 309, rfl⟩
abbrev main_c_75 : Ref sig .tc := ⟨.hbm, 310, rfl⟩
abbrev main_v218 : Ref sig .tc := ⟨.hbm, 311, rfl⟩
abbrev main_v219 : Ref sig .tc := ⟨.hbm, 312, rfl⟩
abbrev main_c_76 : Ref sig .tc := ⟨.hbm, 313, rfl⟩
abbrev main_v220 : Ref sig .tc := ⟨.hbm, 314, rfl⟩
abbrev main_v221 : Ref sig .tc := ⟨.hbm, 315, rfl⟩
abbrev main_c_77 : Ref sig .tc := ⟨.hbm, 316, rfl⟩
abbrev main_v222 : Ref sig .tc := ⟨.hbm, 317, rfl⟩
abbrev main_v223 : Ref sig .tc := ⟨.hbm, 318, rfl⟩
abbrev main_c_78 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_v228 : Ref sig .tc := ⟨.hbm, 324, rfl⟩
abbrev main_v229 : Ref sig .tc := ⟨.hbm, 325, rfl⟩
abbrev main_v230 : Ref sig .tc := ⟨.hbm, 326, rfl⟩
abbrev main_v231 : Ref sig .tc := ⟨.hbm, 327, rfl⟩
abbrev main_c_79 : Ref sig .tc := ⟨.hbm, 328, rfl⟩
abbrev main_v232 : Ref sig .tc := ⟨.hbm, 329, rfl⟩
abbrev main_v233 : Ref sig .tc := ⟨.hbm, 330, rfl⟩
abbrev main_v234 : Ref sig .tc := ⟨.hbm, 331, rfl⟩
abbrev main_c_80 : Ref sig .tc := ⟨.hbm, 332, rfl⟩
abbrev main_v235 : Ref sig .tc := ⟨.hbm, 333, rfl⟩
abbrev main_v236 : Ref sig .tc := ⟨.hbm, 334, rfl⟩
abbrev main_v237 : Ref sig .tc := ⟨.hbm, 335, rfl⟩
abbrev main_c_81 : Ref sig .tc := ⟨.hbm, 336, rfl⟩
abbrev main_v238 : Ref sig .tc := ⟨.hbm, 337, rfl⟩
abbrev main_v239 : Ref sig .tc := ⟨.hbm, 338, rfl⟩
abbrev main_v240 : Ref sig .tc := ⟨.hbm, 339, rfl⟩
abbrev main_c_82 : Ref sig .tc := ⟨.hbm, 340, rfl⟩
abbrev main_v241 : Ref sig .tc := ⟨.hbm, 341, rfl⟩
abbrev main_v242 : Ref sig .tc := ⟨.hbm, 342, rfl⟩
abbrev main_v243 : Ref sig .tc := ⟨.hbm, 343, rfl⟩
abbrev main_c_83 : Ref sig .tc := ⟨.hbm, 344, rfl⟩
abbrev main_v244 : Ref sig .tc := ⟨.hbm, 345, rfl⟩
abbrev main_v245 : Ref sig .tc := ⟨.hbm, 346, rfl⟩
abbrev main_v246 : Ref sig .tc := ⟨.hbm, 347, rfl⟩
abbrev main_c_84 : Ref sig .tc := ⟨.hbm, 348, rfl⟩
abbrev main_v247 : Ref sig .tc := ⟨.hbm, 349, rfl⟩
abbrev main_v248 : Ref sig .tc := ⟨.hbm, 350, rfl⟩
abbrev main_v249 : Ref sig .tc := ⟨.hbm, 351, rfl⟩
abbrev main_v250 : Ref sig .tc := ⟨.hbm, 352, rfl⟩
abbrev main_v251 : Ref sig .tc := ⟨.hbm, 353, rfl⟩
abbrev main_v252 : Ref sig .tc := ⟨.hbm, 354, rfl⟩
abbrev main_v253 : Ref sig .tc := ⟨.hbm, 355, rfl⟩
abbrev main_v254 : Ref sig .tc := ⟨.hbm, 356, rfl⟩
abbrev main_v255 : Ref sig .tc := ⟨.hbm, 357, rfl⟩
abbrev main_c_85 : Ref sig .tc := ⟨.hbm, 358, rfl⟩
abbrev main_v256 : Ref sig .tc := ⟨.hbm, 359, rfl⟩
abbrev main_v257 : Ref sig .tc := ⟨.hbm, 360, rfl⟩
abbrev main_v258 : Ref sig .tc := ⟨.hbm, 361, rfl⟩
abbrev main_v259 : Ref sig .tc := ⟨.hbm, 362, rfl⟩
abbrev main_v260 : Ref sig .tc := ⟨.hbm, 363, rfl⟩
abbrev main_v261 : Ref sig .tc := ⟨.hbm, 364, rfl⟩
abbrev main_c_86 : Ref sig .tc := ⟨.hbm, 365, rfl⟩
abbrev main_v262 : Ref sig .tc := ⟨.hbm, 366, rfl⟩
abbrev main_c_87 : Ref sig .tc := ⟨.hbm, 367, rfl⟩
abbrev main_v263 : Ref sig .tc := ⟨.hbm, 368, rfl⟩
abbrev main_v264 : Ref sig .tc := ⟨.hbm, 369, rfl⟩
abbrev main_c_88 : Ref sig .tc := ⟨.hbm, 370, rfl⟩
abbrev main_v265 : Ref sig .tc := ⟨.hbm, 371, rfl⟩
abbrev main_v266 : Ref sig .tc := ⟨.hbm, 372, rfl⟩
abbrev main_v267 : Ref sig .tc := ⟨.hbm, 373, rfl⟩
abbrev main_v268 : Ref sig .tc := ⟨.hbm, 374, rfl⟩
abbrev main_v269 : Ref sig .tc := ⟨.hbm, 375, rfl⟩
abbrev main_cst_89 : Ref sig .tc := ⟨.hbm, 376, rfl⟩
abbrev main_v270 : Ref sig .tc := ⟨.hbm, 377, rfl⟩
abbrev main_c_90 : Ref sig .tc := ⟨.hbm, 378, rfl⟩
abbrev main_v271 : Ref sig .tc := ⟨.hbm, 379, rfl⟩
abbrev main_v272 : Ref sig .tc := ⟨.hbm, 380, rfl⟩
abbrev main_c_91 : Ref sig .tc := ⟨.hbm, 381, rfl⟩
abbrev main_v273 : Ref sig .tc := ⟨.hbm, 382, rfl⟩
abbrev main_v274 : Ref sig .tc := ⟨.hbm, 383, rfl⟩
abbrev main_v275 : Ref sig .tc := ⟨.hbm, 384, rfl⟩
abbrev main_v276 : Ref sig .tc := ⟨.hbm, 385, rfl⟩
abbrev main_v277 : Ref sig .tc := ⟨.hbm, 386, rfl⟩
abbrev main_c_92 : Ref sig .tc := ⟨.hbm, 387, rfl⟩
abbrev main_v278 : Ref sig .tc := ⟨.hbm, 388, rfl⟩
abbrev main_v279 : Ref sig .tc := ⟨.hbm, 389, rfl⟩
abbrev main_c_93 : Ref sig .tc := ⟨.hbm, 390, rfl⟩
abbrev main_v280 : Ref sig .tc := ⟨.hbm, 391, rfl⟩
abbrev main_v281 : Ref sig .tc := ⟨.hbm, 392, rfl⟩
abbrev main_v282 : Ref sig .tc := ⟨.hbm, 393, rfl⟩
abbrev main_v283 : Ref sig .tc := ⟨.hbm, 394, rfl⟩
abbrev main_v284 : Ref sig .tc := ⟨.hbm, 395, rfl⟩
abbrev main_v285 : Ref sig .tc := ⟨.hbm, 396, rfl⟩
abbrev main_c_94 : Ref sig .tc := ⟨.hbm, 397, rfl⟩
abbrev main_v286 : Ref sig .tc := ⟨.hbm, 398, rfl⟩
abbrev main_v287 : Ref sig .tc := ⟨.hbm, 399, rfl⟩
abbrev main_c_95 : Ref sig .tc := ⟨.hbm, 400, rfl⟩
abbrev main_v288 : Ref sig .tc := ⟨.hbm, 401, rfl⟩
abbrev main_v289 : Ref sig .tc := ⟨.hbm, 402, rfl⟩
abbrev main_v290 : Ref sig .tc := ⟨.hbm, 403, rfl⟩
abbrev main_v291 : Ref sig .tc := ⟨.hbm, 404, rfl⟩
abbrev main_v292 : Ref sig .tc := ⟨.hbm, 405, rfl⟩
abbrev main_v293 : Ref sig .tc := ⟨.hbm, 406, rfl⟩
abbrev main_c_96 : Ref sig .tc := ⟨.hbm, 407, rfl⟩
abbrev main_v294 : Ref sig .tc := ⟨.hbm, 408, rfl⟩
abbrev main_v295 : Ref sig .tc := ⟨.hbm, 409, rfl⟩
abbrev main_c_97 : Ref sig .tc := ⟨.hbm, 410, rfl⟩
abbrev main_v296 : Ref sig .tc := ⟨.hbm, 411, rfl⟩
abbrev main_v297 : Ref sig .tc := ⟨.hbm, 412, rfl⟩
abbrev main_c_98 : Ref sig .tc := ⟨.hbm, 413, rfl⟩
abbrev main_v298 : Ref sig .tc := ⟨.hbm, 414, rfl⟩
abbrev main_v299 : Ref sig .tc := ⟨.hbm, 415, rfl⟩
abbrev main_c_99 : Ref sig .tc := ⟨.hbm, 416, rfl⟩
abbrev main_v300 : Ref sig .tc := ⟨.hbm, 417, rfl⟩
abbrev main_v301 : Ref sig .tc := ⟨.hbm, 418, rfl⟩
abbrev main_c_100 : Ref sig .tc := ⟨.hbm, 419, rfl⟩
abbrev main_v302 : Ref sig .tc := ⟨.hbm, 420, rfl⟩
abbrev main_v303 : Ref sig .tc := ⟨.hbm, 421, rfl⟩
abbrev main_c_101 : Ref sig .tc := ⟨.hbm, 422, rfl⟩
abbrev main_v304 : Ref sig .tc := ⟨.hbm, 423, rfl⟩
abbrev main_v305 : Ref sig .tc := ⟨.hbm, 424, rfl⟩
abbrev main_c_102 : Ref sig .tc := ⟨.hbm, 425, rfl⟩
abbrev main_v306 : Ref sig .tc := ⟨.hbm, 426, rfl⟩
abbrev main_v307 : Ref sig .tc := ⟨.hbm, 427, rfl⟩
abbrev main_c_103 : Ref sig .tc := ⟨.hbm, 428, rfl⟩
abbrev main_v308 : Ref sig .tc := ⟨.hbm, 429, rfl⟩
abbrev main_v309 : Ref sig .tc := ⟨.hbm, 430, rfl⟩
abbrev main_c_104 : Ref sig .tc := ⟨.hbm, 431, rfl⟩
abbrev main_v310 : Ref sig .tc := ⟨.hbm, 432, rfl⟩
abbrev main_v311 : Ref sig .tc := ⟨.hbm, 433, rfl⟩
abbrev main_c_105 : Ref sig .tc := ⟨.hbm, 434, rfl⟩
abbrev main_v312 : Ref sig .tc := ⟨.hbm, 435, rfl⟩
abbrev main_v313 : Ref sig .tc := ⟨.hbm, 436, rfl⟩
abbrev main_c_106 : Ref sig .tc := ⟨.hbm, 437, rfl⟩
abbrev main_v314 : Ref sig .tc := ⟨.hbm, 438, rfl⟩
abbrev main_v315 : Ref sig .tc := ⟨.hbm, 439, rfl⟩
abbrev main_c_107 : Ref sig .tc := ⟨.hbm, 440, rfl⟩
abbrev main_v316 : Ref sig .tc := ⟨.hbm, 441, rfl⟩
abbrev main_v317 : Ref sig .tc := ⟨.hbm, 442, rfl⟩
abbrev main_c_108 : Ref sig .tc := ⟨.hbm, 443, rfl⟩
abbrev main_v318 : Ref sig .tc := ⟨.hbm, 444, rfl⟩
abbrev main_v319 : Ref sig .tc := ⟨.hbm, 445, rfl⟩
abbrev main_c_109 : Ref sig .tc := ⟨.hbm, 446, rfl⟩
abbrev main_v320 : Ref sig .tc := ⟨.hbm, 447, rfl⟩
abbrev main_v321 : Ref sig .tc := ⟨.hbm, 448, rfl⟩
abbrev main_c_110 : Ref sig .tc := ⟨.hbm, 449, rfl⟩
abbrev main_v322 : Ref sig .tc := ⟨.hbm, 450, rfl⟩
abbrev main_v323 : Ref sig .tc := ⟨.hbm, 451, rfl⟩
abbrev main_c_111 : Ref sig .tc := ⟨.hbm, 452, rfl⟩
abbrev main_v324 : Ref sig .tc := ⟨.hbm, 453, rfl⟩
abbrev main_v325 : Ref sig .tc := ⟨.hbm, 454, rfl⟩
abbrev main_v326 : Ref sig .tc := ⟨.hbm, 455, rfl⟩
abbrev main_v327 : Ref sig .tc := ⟨.hbm, 456, rfl⟩
abbrev main_v328 : Ref sig .tc := ⟨.hbm, 457, rfl⟩
abbrev main_v329 : Ref sig .tc := ⟨.hbm, 458, rfl⟩
abbrev main_v330 : Ref sig .tc := ⟨.hbm, 459, rfl⟩
abbrev main_v331 : Ref sig .tc := ⟨.hbm, 460, rfl⟩
abbrev main_v332 : Ref sig .tc := ⟨.hbm, 461, rfl⟩
abbrev main_v333 : Ref sig .tc := ⟨.hbm, 462, rfl⟩
abbrev main_v334 : Ref sig .tc := ⟨.hbm, 463, rfl⟩
abbrev main_c_112 : Ref sig .tc := ⟨.hbm, 464, rfl⟩
abbrev main_v335 : Ref sig .tc := ⟨.hbm, 465, rfl⟩
abbrev main_v336 : Ref sig .tc := ⟨.hbm, 466, rfl⟩
abbrev main_v337 : Ref sig .tc := ⟨.hbm, 467, rfl⟩
abbrev main_c_113 : Ref sig .tc := ⟨.hbm, 468, rfl⟩
abbrev main_v338 : Ref sig .tc := ⟨.hbm, 469, rfl⟩
abbrev main_v339 : Ref sig .tc := ⟨.hbm, 470, rfl⟩
abbrev main_v340 : Ref sig .tc := ⟨.hbm, 471, rfl⟩
abbrev main_v341 : Ref sig .tc := ⟨.hbm, 472, rfl⟩
abbrev main_v342 : Ref sig .tc := ⟨.hbm, 473, rfl⟩
abbrev main_v343 : Ref sig .tc := ⟨.hbm, 474, rfl⟩
abbrev main_v344 : Ref sig .tc := ⟨.hbm, 475, rfl⟩
abbrev main_v345 : Ref sig .tc := ⟨.hbm, 476, rfl⟩
abbrev main_v346 : Ref sig .tc := ⟨.hbm, 477, rfl⟩
abbrev main_v347 : Ref sig .tc := ⟨.hbm, 478, rfl⟩
abbrev main_c_114 : Ref sig .tc := ⟨.hbm, 479, rfl⟩
abbrev main_v348 : Ref sig .tc := ⟨.hbm, 480, rfl⟩
abbrev main_v349 : Ref sig .tc := ⟨.hbm, 481, rfl⟩
abbrev main_c_115 : Ref sig .tc := ⟨.hbm, 482, rfl⟩
abbrev main_v350 : Ref sig .tc := ⟨.hbm, 483, rfl⟩
abbrev main_v351 : Ref sig .tc := ⟨.hbm, 484, rfl⟩
abbrev main_v352 : Ref sig .tc := ⟨.hbm, 485, rfl⟩
abbrev main_c_116 : Ref sig .tc := ⟨.hbm, 486, rfl⟩
abbrev main_v353 : Ref sig .tc := ⟨.hbm, 487, rfl⟩
abbrev main_v354 : Ref sig .tc := ⟨.hbm, 488, rfl⟩
abbrev main_c_117 : Ref sig .tc := ⟨.hbm, 489, rfl⟩
abbrev main_v355 : Ref sig .tc := ⟨.hbm, 490, rfl⟩
abbrev main_v356 : Ref sig .tc := ⟨.hbm, 491, rfl⟩
abbrev main_c_118 : Ref sig .tc := ⟨.hbm, 492, rfl⟩
abbrev main_v357 : Ref sig .tc := ⟨.hbm, 493, rfl⟩
abbrev main_v358 : Ref sig .tc := ⟨.hbm, 494, rfl⟩
abbrev main_c_119 : Ref sig .tc := ⟨.hbm, 495, rfl⟩
abbrev main_call5_v0 : Ref sig .tc := ⟨.hbm, 496, rfl⟩
abbrev main_v359 : Ref sig .tc := ⟨.hbm, 497, rfl⟩
abbrev main_v360 : Ref sig .tc := ⟨.hbm, 498, rfl⟩
abbrev main_c_120 : Ref sig .tc := ⟨.hbm, 499, rfl⟩
abbrev main_v361 : Ref sig .tc := ⟨.hbm, 500, rfl⟩
abbrev main_v362 : Ref sig .tc := ⟨.hbm, 501, rfl⟩
abbrev main_c_121 : Ref sig .tc := ⟨.hbm, 502, rfl⟩
abbrev main_v363 : Ref sig .tc := ⟨.hbm, 503, rfl⟩
abbrev main_v364 : Ref sig .tc := ⟨.hbm, 504, rfl⟩
abbrev main_c_122 : Ref sig .tc := ⟨.hbm, 505, rfl⟩
abbrev main_v365 : Ref sig .tc := ⟨.hbm, 506, rfl⟩
abbrev main_v366 : Ref sig .tc := ⟨.hbm, 507, rfl⟩
abbrev main_c_123 : Ref sig .tc := ⟨.hbm, 508, rfl⟩
abbrev main_v367 : Ref sig .tc := ⟨.hbm, 509, rfl⟩
abbrev main_v368 : Ref sig .tc := ⟨.hbm, 510, rfl⟩
abbrev main_c_124 : Ref sig .tc := ⟨.hbm, 511, rfl⟩
abbrev main_v369 : Ref sig .tc := ⟨.hbm, 512, rfl⟩
abbrev main_v370 : Ref sig .tc := ⟨.hbm, 513, rfl⟩
abbrev main_v371 : Ref sig .tc := ⟨.hbm, 514, rfl⟩
abbrev main_c_125 : Ref sig .tc := ⟨.hbm, 515, rfl⟩
abbrev main_v372 : Ref sig .tc := ⟨.hbm, 516, rfl⟩
abbrev main_v373 : Ref sig .tc := ⟨.hbm, 517, rfl⟩
abbrev main_c_126 : Ref sig .tc := ⟨.hbm, 518, rfl⟩
abbrev main_v374 : Ref sig .tc := ⟨.hbm, 519, rfl⟩
abbrev main_v375 : Ref sig .tc := ⟨.hbm, 520, rfl⟩
abbrev main_c_127 : Ref sig .tc := ⟨.hbm, 521, rfl⟩
abbrev main_v376 : Ref sig .tc := ⟨.hbm, 522, rfl⟩
abbrev main_v377 : Ref sig .tc := ⟨.hbm, 523, rfl⟩
abbrev main_v378 : Ref sig .tc := ⟨.hbm, 524, rfl⟩
abbrev main_c_128 : Ref sig .tc := ⟨.hbm, 525, rfl⟩
abbrev main_v379 : Ref sig .tc := ⟨.hbm, 526, rfl⟩
abbrev main_v380 : Ref sig .tc := ⟨.hbm, 527, rfl⟩
abbrev main_c_129 : Ref sig .tc := ⟨.hbm, 528, rfl⟩
abbrev main_v381 : Ref sig .tc := ⟨.hbm, 529, rfl⟩
abbrev main_v382 : Ref sig .tc := ⟨.hbm, 530, rfl⟩
abbrev main_c_130 : Ref sig .tc := ⟨.hbm, 531, rfl⟩
abbrev main_v383 : Ref sig .tc := ⟨.hbm, 532, rfl⟩
abbrev main_v384 : Ref sig .tc := ⟨.hbm, 533, rfl⟩
abbrev main_v385 : Ref sig .tc := ⟨.hbm, 534, rfl⟩
abbrev main_v386 : Ref sig .tc := ⟨.hbm, 535, rfl⟩
abbrev main_cst_131 : Ref sig .tc := ⟨.hbm, 536, rfl⟩
abbrev main_v387 : Ref sig .tc := ⟨.hbm, 537, rfl⟩
abbrev main_v388 : Ref sig .tc := ⟨.hbm, 538, rfl⟩
abbrev main_v389 : Ref sig .tc := ⟨.hbm, 539, rfl⟩
abbrev main_v390 : Ref sig .tc := ⟨.hbm, 540, rfl⟩
abbrev main_v391 : Ref sig .tc := ⟨.hbm, 541, rfl⟩
abbrev main_v392 : Ref sig .tc := ⟨.hbm, 542, rfl⟩
abbrev main_v393 : Ref sig .tc := ⟨.hbm, 543, rfl⟩
abbrev main_v394 : Ref sig .tc := ⟨.hbm, 544, rfl⟩
abbrev main_cst_132 : Ref sig .tc := ⟨.hbm, 545, rfl⟩
abbrev main_v395 : Ref sig .tc := ⟨.hbm, 546, rfl⟩
abbrev main_v396 : Ref sig .tc := ⟨.hbm, 547, rfl⟩
abbrev main_v397 : Ref sig .tc := ⟨.hbm, 548, rfl⟩
abbrev main_v398 : Ref sig .tc := ⟨.hbm, 549, rfl⟩
abbrev main_c_133 : Ref sig .tc := ⟨.hbm, 550, rfl⟩
abbrev main_v399 : Ref sig .tc := ⟨.hbm, 551, rfl⟩
abbrev main_v400 : Ref sig .tc := ⟨.hbm, 552, rfl⟩
abbrev main_v401 : Ref sig .tc := ⟨.hbm, 553, rfl⟩
abbrev main_v402 : Ref sig .tc := ⟨.hbm, 554, rfl⟩
abbrev main_v403 : Ref sig .tc := ⟨.hbm, 555, rfl⟩
abbrev main_v404 : Ref sig .tc := ⟨.hbm, 556, rfl⟩
abbrev main_v405 : Ref sig .tc := ⟨.hbm, 557, rfl⟩
abbrev main_v406 : Ref sig .tc := ⟨.hbm, 558, rfl⟩
abbrev main_v407 : Ref sig .tc := ⟨.hbm, 559, rfl⟩
abbrev main_cst_134 : Ref sig .tc := ⟨.hbm, 560, rfl⟩
abbrev main_call6_v0 : Ref sig .tc := ⟨.hbm, 561, rfl⟩
abbrev main_call6_v1 : Ref sig .tc := ⟨.hbm, 562, rfl⟩
abbrev main_v408 : Ref sig .tc := ⟨.hbm, 563, rfl⟩
abbrev main_cst_135 : Ref sig .tc := ⟨.hbm, 564, rfl⟩
abbrev main_v409 : Ref sig .tc := ⟨.hbm, 565, rfl⟩
abbrev main_cst_136 : Ref sig .tc := ⟨.hbm, 566, rfl⟩
abbrev main_v410 : Ref sig .tc := ⟨.hbm, 567, rfl⟩
abbrev main_v411 : Ref sig .tc := ⟨.hbm, 568, rfl⟩
abbrev main_v412 : Ref sig .tc := ⟨.hbm, 569, rfl⟩
abbrev main_v413 : Ref sig .tc := ⟨.hbm, 570, rfl⟩
abbrev main_v414 : Ref sig .tc := ⟨.hbm, 571, rfl⟩
abbrev main_v415 : Ref sig .tc := ⟨.hbm, 572, rfl⟩
abbrev main_cst_137 : Ref sig .tc := ⟨.hbm, 573, rfl⟩
abbrev main_v416 : Ref sig .tc := ⟨.hbm, 574, rfl⟩
abbrev main_v417 : Ref sig .tc := ⟨.hbm, 575, rfl⟩
abbrev main_v418 : Ref sig .tc := ⟨.hbm, 576, rfl⟩
abbrev main_v419 : Ref sig .tc := ⟨.hbm, 577, rfl⟩
abbrev main_v420 : Ref sig .tc := ⟨.hbm, 578, rfl⟩
abbrev main_v421 : Ref sig .tc := ⟨.hbm, 579, rfl⟩
abbrev main_v422 : Ref sig .tc := ⟨.hbm, 580, rfl⟩

abbrev nD : Nat := 1
abbrev τ : Topo := Topo.v7x

variable {F : FTy → Type} [FloatOps F]
-- ==== Proof.Frames.lean ====
/- The frame claims, and the idealization's ledger. That each program terminates with its arguments unchanged and every
   counter back at zero is the generated frame run of the two kernel programs and the generated run of the reference,
   which has no counter at all; the ledger has one entry, the named constant `1 / √128`. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.SL.Sem

/-- The precondition's broadcasts and reshapes are well formed. -/
instance preFacts : Cert.Pre_blocks_distinct.Facts where
  shapeCasts_S8x256_S2048 := by decide
  bcast_S_S2048 := by decide
  bcast_S2048_S2048x1_0 := by decide
  bcast_S2048_S1x2048_1 := by decide
  bcast_S2048x1_S2048x2048_0_1 := by decide
  bcast_S1x2048_S2048x2048_0_1 := by decide
  bcast_S_S8x16x32x128 := by decide

/-- The printed kernel terminates, leaves its arguments alone and leaves every counter at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- In particular under the precondition. -/
theorem frame_ideal_pre : Cert.quiescent_KernelIdeal_pre_blocks_distinct := fun m ρ _ => Cert.KernelIdeal.Gen.frame m ρ

/-- The reference terminates and leaves its arguments alone; it has no counter, so each of them reads zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3))
        ∧ r.2.sem = fun _ => 0) :=
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The frame of the reference. -/
theorem frame_reference : Cert.quiescent_ReferenceIdeal := fun m ρ _ => reference_frame m ρ

/-- In particular under the precondition. -/
theorem frame_reference_pre : Cert.quiescent_ReferenceIdeal_pre_blocks_distinct := fun m ρ _ => reference_frame m ρ

/-- The one rewrite of the idealization: the literal `1 / √128` named the real it was computed from. -/
theorem preserves : Cert.preserves_Kernel_KernelIdeal :=
  IdealRules.named_const.statement Cert.KernelIdeal.κ "s" .f32 0x3DB504F3#32 (((Real.sqrt 128)⁻¹ : ℝ) : EReal) rfl

end Cert.Proof

end
-- ==== Proof.Consts.lean ====
/- The float constants the two programs spell, as the extended reals their patterns denote. -/
module

public import Idealize.ShloMosaic.PureOps.Ideal

@[expose] public section

noncomputable section

namespace Cert.Proof.Consts

open Idealize.ShloMosaic

/-- `7.0`. -/
theorem seven : Ideal.ofBits .f32 0x40E00000#32 = ((7 : ℝ) : EReal) := by
  simp [Ideal.ofBits, Ideal.ieee, -EReal.coe_mul]; norm_num

/-- `8.0`. -/
theorem eight : Ideal.ofBits .f32 0x41000000#32 = ((8 : ℝ) : EReal) := by
  simp [Ideal.ofBits, Ideal.ieee, -EReal.coe_mul]; norm_num

/-- `-8.0`. -/
theorem neg_eight : Ideal.ofBits .f32 0xC1000000#32 = ((-8 : ℝ) : EReal) := by
  simp [Ideal.ofBits, Ideal.ieee, -EReal.coe_mul]; norm_num

/-- `128.0`. -/
theorem width : Ideal.ofBits .f32 0x43000000#32 = ((128 : ℝ) : EReal) := by
  simp [Ideal.ofBits, Ideal.ieee, -EReal.coe_mul]; norm_num

/-- The least scale, `1e-8` rounded, is a positive real. -/
theorem least : ∃ r : ℝ, 0 < r ∧ Ideal.ofBits .f32 0x322BCC77#32 = (r : EReal) := by
  refine ⟨_, ?_, by simp [Ideal.ofBits, Ideal.ieee, -EReal.coe_mul]; rfl⟩
  positivity

/-- What masked scores are set to, `-1e30` rounded, is a real. -/
theorem masked : ∃ r : ℝ, Ideal.ofBits .f32 0xF149F2CA#32 = (r : EReal) :=
  ⟨_, by simp [Ideal.ofBits, Ideal.ieee, -EReal.coe_mul]; rfl⟩

/-- Minus infinity. -/
theorem neg_inf : Ideal.ofBits .f32 0xFF800000#32 = ⊥ := by
  simp [Ideal.ofBits, Ideal.ieee]

/-- Plus infinity. -/
theorem pos_inf : Ideal.ofBits .f32 0x7F800000#32 = ⊤ := by
  simp [Ideal.ofBits, Ideal.ieee]

end Cert.Proof.Consts

end
-- ==== Proof.Nibble.lean ====
/- The words between the two quantisers. The reference rounds and clips a float, turns it into a 4-bit nibble, codes the
   nibble in a Hamming(8,4) word, decodes the word and turns the nibble back into a float; the kernel only rounds and
   clips. This file states that the way through the words gives the rounded and clipped float back. -/
module

public import proofs.«01_k».proof.Proof.Consts

@[expose] public section

noncomputable section

namespace Cert.Proof

open Idealize.ShloMosaic

/-! ## The code -/

/-- Bit `i` of a word. -/
def bit (w i : BitVec 32) : BitVec 32 := IntOp.andi (IntOp.shrsi .host w i) 1#32

/-- The first parity bit of a nibble. -/
def par1 (n : BitVec 32) : BitVec 32 := IntOp.xori (IntOp.xori (bit n 0#32) (bit n 1#32)) (bit n 3#32)
/-- The second. -/
def par2 (n : BitVec 32) : BitVec 32 := IntOp.xori (IntOp.xori (bit n 0#32) (bit n 2#32)) (bit n 3#32)
/-- The third. -/
def par4 (n : BitVec 32) : BitVec 32 := IntOp.xori (IntOp.xori (bit n 1#32) (bit n 2#32)) (bit n 3#32)

/-- The Hamming(8,4) word of a nibble. -/
def encode (n : BitVec 32) : BitVec 32 :=
  IntOp.ori (IntOp.ori (IntOp.ori (IntOp.ori (IntOp.ori (IntOp.ori (IntOp.ori (par1 n)
      (IntOp.shli .host (par2 n) 1#32)) (IntOp.shli .host (bit n 0#32) 2#32)) (IntOp.shli .host (par4 n) 3#32))
      (IntOp.shli .host (bit n 1#32) 4#32)) (IntOp.shli .host (bit n 2#32) 5#32)) (IntOp.shli .host (bit n 3#32) 6#32))
    (IntOp.shli .host (IntOp.xori (IntOp.xori (IntOp.xori (IntOp.xori (IntOp.xori (IntOp.xori (par1 n) (par2 n))
      (bit n 0#32)) (par4 n)) (bit n 1#32)) (bit n 2#32)) (bit n 3#32)) 7#32)

/-- The syndrome of a word. -/
def syndrome (w : BitVec 32) : BitVec 32 :=
  IntOp.addi (IntOp.addi (IntOp.xori (IntOp.xori (IntOp.xori (bit w 0#32) (bit w 2#32)) (bit w 4#32)) (bit w 6#32))
      (IntOp.muli 2#32 (IntOp.xori (IntOp.xori (IntOp.xori (bit w 1#32) (bit w 2#32)) (bit w 5#32)) (bit w 6#32))))
    (IntOp.muli 4#32 (IntOp.xori (IntOp.xori (IntOp.xori (bit w 3#32) (bit w 4#32)) (bit w 5#32)) (bit w 6#32)))

/-- The parity of all eight bits of a word. -/
def overall (w : BitVec 32) : BitVec 32 :=
  IntOp.xori (IntOp.xori (IntOp.xori (IntOp.xori (IntOp.xori (IntOp.xori (IntOp.xori (bit w 0#32) (bit w 1#32))
    (bit w 2#32)) (bit w 3#32)) (bit w 4#32)) (bit w 5#32)) (bit w 6#32)) (bit w 7#32)

/-- A word with the bit its syndrome names flipped, where the syndrome names one. -/
def correct (w : BitVec 32) : BitVec 32 :=
  IntOp.xori w (Scalar.select (IntOp.andi (IntOp.cmpi .sgt (syndrome w) 0#32) (IntOp.cmpi .eq (overall w) 1#32))
    (IntOp.shli .host 1#32 (IntOp.maxsi (IntOp.subi (syndrome w) 1#32) 0#32)) 0#32)

/-- The nibble of a corrected word. -/
def nibble (w : BitVec 32) : BitVec 32 :=
  IntOp.ori (IntOp.ori (IntOp.ori (bit w 2#32) (IntOp.shli .host (bit w 4#32) 1#32)) (IntOp.shli .host (bit w 5#32) 2#32))
    (IntOp.shli .host (bit w 6#32) 3#32)

/-- Decoding the word of a nibble gives the nibble. -/
theorem decode_encode : ∀ n : Fin 16, nibble (correct (encode (BitVec.ofNat 32 n.val))) = BitVec.ofNat 32 n.val := by
  decide +kernel

/-! ## The float -/

/-- A float rounded to an integer, to even, and clipped into `[-8, 7]`. -/
def level (y : EReal) : EReal :=
  min ((7 : ℝ) : EReal) (max ((-8 : ℝ) : EReal) (Ideal.liftRound Ideal.roundHalfEven y))

/-- The greater of two reals, as an extended real. -/
theorem coe_max (a b : ℝ) : ((max a b : ℝ) : EReal) = max (a : EReal) (b : EReal) :=
  EReal.coe_strictMono.monotone.map_max

/-- The lesser of two reals, as an extended real. -/
theorem coe_min (a b : ℝ) : ((min a b : ℝ) : EReal) = min (a : EReal) (b : EReal) :=
  EReal.coe_strictMono.monotone.map_min

/-- It is one of sixteen levels. -/
theorem level_eq (y : EReal) : ∃ n : Fin 16, level y = (((n.val : ℤ) - 8 : ℤ) : ℝ) := by
  induction y with
  | bot =>
    refine ⟨0, ?_⟩
    rw [level, Ideal.liftRound_bot, max_bot_right, ← coe_min]
    norm_num
  | top =>
    refine ⟨15, ?_⟩
    simp only [level, Ideal.liftRound_top, max_top_right, min_top_right]
    norm_num
  | coe r =>
    obtain ⟨k, hk⟩ : ∃ k : ℤ, k = Ideal.roundHalfEven r := ⟨_, rfl⟩
    have h : level (r : EReal) = ((min 7 (max (-8) k) : ℤ) : ℝ) := by
      simp only [level, Ideal.liftRound_coe, ← hk]
      rw [← coe_max, ← coe_min]
      push_cast
      rfl
    refine ⟨⟨(min 7 (max (-8) k) + 8).toNat, by omega⟩, ?_⟩
    rw [h]
    congr 2
    simp only
    omega

/-- The nibble of a level is the level plus eight. -/
theorem nibble_of_level (n : Fin 16) :
    IntOp.addi (Ideal.fptosi 32 ((((n.val : ℤ) - 8 : ℤ) : ℝ) : EReal)) 8#32 = BitVec.ofNat 32 n.val := by
  have h : Ideal.fptosi 32 ((((n.val : ℤ) - 8 : ℤ) : ℝ) : EReal) = BitVec.ofInt 32 ((n.val : ℤ) - 8) := by
    show BitVec.ofInt 32 (max _ (min _ (if 0 ≤ (((n.val : ℤ) - 8 : ℤ) : ℝ) then ⌊(((n.val : ℤ) - 8 : ℤ) : ℝ)⌋ else ⌈(((n.val : ℤ) - 8 : ℤ) : ℝ)⌉))) = _
    rw [Int.floor_intCast, Int.ceil_intCast, ite_self]
    congr 1
    have := n.isLt
    norm_num
    omega
  rw [h]
  clear h
  revert n
  decide +kernel

/-- A nibble back as a float, less eight, is the level. -/
theorem level_of_nibble (n : Fin 16) :
    (((BitVec.ofNat 32 n.val).toInt : ℝ) : EReal) - ((8 : ℝ) : EReal) = ((((n.val : ℤ) - 8 : ℤ) : ℝ) : EReal) := by
  have h : (BitVec.ofNat 32 n.val).toInt = (n.val : ℤ) := by revert n; decide +kernel
  rw [h, ← EReal.coe_sub]
  push_cast
  rfl

/-- Through the nibble, its code word, the decoder and back, a rounded and clipped float is itself. -/
theorem level_through (y : EReal) :
    (((nibble (correct (encode (IntOp.addi (Ideal.fptosi 32 (level y)) 8#32)))).toInt : ℝ) : EReal) - ((8 : ℝ) : EReal)
      = level y := by
  obtain ⟨n, hn⟩ := level_eq y
  rw [hn, nibble_of_level, decode_encode, level_of_nibble]

/-- A level is a real. -/
theorem level_real (y : EReal) : ∃ r : ℝ, level y = (r : EReal) := by
  obtain ⟨n, hn⟩ := level_eq y
  exact ⟨_, hn⟩

/-- The level of zero is zero. -/
theorem level_zero : level 0 = 0 := by
  have h : Ideal.roundHalfEven 0 = 0 := by simp [Ideal.roundHalfEven]
  rw [level, ← EReal.coe_zero, Ideal.liftRound_coe, h]
  rw [← coe_max, ← coe_min]
  norm_num

/-! ## A row quantised -/

/-- The scale of a row: a seventh of its greatest magnitude, at least `1e-8`. -/
def scale (x : Fin 128 → EReal) : EReal :=
  max (Ideal.div (Finset.univ.fold max ⊥ fun d => max (x d) (-(x d))) ((7 : ℝ) : EReal)) (Ideal.ofBits .f32 0x322BCC77#32)

/-- Entry `d` of a row, quantised: the level of its quotient by the scale, times the scale. -/
def quant (x : Fin 128 → EReal) (d : Fin 128) : EReal := level (Ideal.div (x d) (scale x)) * scale x

/-- A quantised entry is a real, whatever the row: where the scale is infinite the quotient is zero. -/
theorem quant_real (x : Fin 128 → EReal) (d : Fin 128) : ∃ r : ℝ, quant x d = (r : EReal) := by
  obtain ⟨e, he, hb⟩ := Consts.least
  have hpos : ((e : ℝ) : EReal) ≤ scale x := by rw [scale, hb]; exact le_max_right _ _
  obtain ⟨l, hl⟩ := level_real (Ideal.div (x d) (scale x))
  rw [quant]
  generalize scale x = s at hpos hl ⊢
  induction s with
  | bot => exact absurd hpos (by simp)
  | top =>
    refine ⟨0, ?_⟩
    have : Ideal.div (x d) ⊤ = 0 := by simp [Ideal.div]
    rw [this, level_zero, zero_mul, EReal.coe_zero]
  | coe s => exact ⟨l * s, by rw [hl, EReal.coe_mul]⟩

end Cert.Proof

end
-- ==== Proof.Paged.lean ====
/- The paged cache. The reference sets blocks of the cache by the block table (a scatter whose body returns the update) and
   takes the same blocks back (a gather). Where the table names each block at most once, and only blocks there are, what is
   taken is what was set. -/
module

public import proofs.«01_k».proof.ReferenceIdeal
public import proofs.«01_k».proof.Proof.Gen.ReferenceIdeal
public import Idealize.ShloMosaic.Lib.Routing.OpsSet
public import Idealize.ShloMosaic.Lib.Pointwise

@[expose] public section

noncomputable section

namespace Cert.Proof

open Idealize.ShloMosaic Cert.ReferenceIdeal Cert.ReferenceIdeal.Gen

/-- Taking by an index array what was set by it, at any shapes: the update, where each update lands at the element that the
    take reads for it (`land`) and no two land at one (`inj`). -/
theorem take_set {α : Type} {s si : Shape} {w : Nat} (d : ScatterDims s si s) (g : GatherDims s si s) (x : s.Idx → α)
    (idx : IVec si w) (upd : s.Idx → α)
    (land : ∀ j a, ((g.operandIdx j idx a).val : Int) = d.start j idx a + d.window j a)
    (inj : ∀ j k, (∀ a, d.start j idx a + d.window j a = d.start k idx a + d.window k a) → j = k) :
    Host.gather g (Host.scatter d (fun _ b => b) x idx upd) idx = upd := by
  funext j
  have hit : ∀ k, d.resultIdx? k idx = some (g.operandIdx k idx) := fun k => by
    have h : ∀ a, 0 ≤ d.start k idx a + d.window k a ∧ d.start k idx a + d.window k a < s.size a := fun a => by
      rw [← land k a]
      exact ⟨Int.natCast_nonneg _, Int.ofNat_lt.mpr (g.operandIdx k idx a).isLt⟩
    unfold ScatterDims.resultIdx?
    rw [dif_pos h]
    refine congrArg some (funext fun a => Fin.ext ?_)
    show (d.start k idx a + d.window k a).toNat = _
    rw [← land k a]
    rfl
  refine Routing.scatter_set_hit d x idx upd (g.operandIdx j idx) (upd j) (fun k hk => ?_) j (hit j)
  rw [hit k] at hk
  have e := Option.some.inj hk
  refine congrArg upd (inj k j fun a => ?_)
  rw [← land k a, ← land j a, e]

variable (idx : IVec S2048x1 32)

/-- The table's entries, as a column of indices, lie inside the cache. -/
def Inside : Prop := ∀ p : Fin 2048, 0 ≤ (idx (ix2 p (0 : Fin 1))).toInt ∧ (idx (ix2 p (0 : Fin 1))).toInt < 2048
/-- No two of them are equal. -/
def Apart : Prop := ∀ p r : Fin 2048, (idx (ix2 p (0 : Fin 1))).toInt = (idx (ix2 r (0 : Fin 1))).toInt → p = r

variable {idx} (hin : Inside idx) (hap : Apart idx)
include hin hap

set_option maxRecDepth 16384 in
/-- The code words taken back are the code words set. -/
theorem words_take_set {α : Type} (x upd : S2048x16x8x128.Idx → α) :
    Host.gather gather_S2048x16x8x128_S2048x1_S2048x16x8x128_123_0_n_n_0_1_1168128
      (Host.scatter scatter_S2048x16x8x128_S2048x1_S2048x16x8x128_123_0_0_1 (fun _ b => b) x idx upd) idx = upd := by
  have st : ∀ j : S2048x16x8x128.Idx, (scatter_S2048x16x8x128_S2048x1_S2048x16x8x128_123_0_0_1).start j idx 0
      = (idx (ix2 (j 0) (0 : Fin 1))).toInt := fun j => by
    unfold ScatterDims.start
    rw [dif_pos (by decide)]
    refine congrArg (fun i => (idx i).toInt) (funext fun b => Fin.ext ?_)
    match b with
    | ⟨0, _⟩ => rfl
    | ⟨1, _⟩ => rfl
  have gs : ∀ j : S2048x16x8x128.Idx,
      ((gather_S2048x16x8x128_S2048x1_S2048x16x8x128_123_0_n_n_0_1_1168128).operandIdx j idx 0).val
      = min (idx (ix2 (j 0) (0 : Fin 1))).toInt.toNat 2047 := fun j => by
    show GatherDims.start _ j idx 0 + GatherDims.batchCoord _ j 0 + GatherDims.offCoord _ j 0 = _
    rw [GatherDims.batchCoord_eq_zero _ _ _ (by decide), GatherDims.offCoord_eq_zero _ _ _ (by decide)]
    unfold GatherDims.start
    rw [dif_pos (by decide)]
    refine congrArg (fun i => min (idx i).toInt.toNat 2047) (funext fun b => Fin.ext ?_)
    match b with
    | ⟨0, _⟩ => rfl
    | ⟨1, _⟩ => rfl
  refine take_set _ _ _ _ _ (fun j a => ?_) (fun j k h => ?_)
  · match a with
    | ⟨0, _⟩ =>
      refine Eq.trans ?_ (congrArg₂ (· + ·) (st j).symm (rfl : (0 : Int) = _))
      have e := gs j
      have hj := hin (j 0)
      show ((GatherDims.operandIdx _ j idx 0).val : Int) = _
      rw [e]
      omega
    | ⟨1, _⟩ => rfl
    | ⟨2, _⟩ => rfl
    | ⟨3, _⟩ => rfl
  · funext a
    have h0 : j 0 = k 0 := hap _ _ (by
      have := h 0
      rw [st, st] at this
      exact add_right_cancel (b := (0 : Int)) this)
    match a with
    | ⟨0, _⟩ => exact h0
    | ⟨1, _⟩ =>
      have h1 : (0 : Int) + ((j 1).val : Int) = 0 + ((k 1).val : Int) := h 1
      exact Fin.ext (Int.ofNat.inj (Int.add_left_cancel h1))
    | ⟨2, _⟩ =>
      have h1 : (0 : Int) + ((j 2).val : Int) = 0 + ((k 2).val : Int) := h 2
      exact Fin.ext (Int.ofNat.inj (Int.add_left_cancel h1))
    | ⟨3, _⟩ =>
      have h1 : (0 : Int) + ((j 3).val : Int) = 0 + ((k 3).val : Int) := h 3
      exact Fin.ext (Int.ofNat.inj (Int.add_left_cancel h1))

set_option maxRecDepth 16384 in
/-- The scales taken back are the scales set. -/
theorem scales_take_set {α : Type} (x upd : S2048x16x8.Idx → α) :
    Host.gather gather_S2048x16x8_S2048x1_S2048x16x8_12_0_n_n_0_1_1168
      (Host.scatter scatter_S2048x16x8_S2048x1_S2048x16x8_12_0_0_1 (fun _ b => b) x idx upd) idx = upd := by
  have st : ∀ j : S2048x16x8.Idx, (scatter_S2048x16x8_S2048x1_S2048x16x8_12_0_0_1).start j idx 0
      = (idx (ix2 (j 0) (0 : Fin 1))).toInt := fun j => by
    unfold ScatterDims.start
    rw [dif_pos (by decide)]
    refine congrArg (fun i => (idx i).toInt) (funext fun b => Fin.ext ?_)
    match b with
    | ⟨0, _⟩ => rfl
    | ⟨1, _⟩ => rfl
  have gs : ∀ j : S2048x16x8.Idx,
      ((gather_S2048x16x8_S2048x1_S2048x16x8_12_0_n_n_0_1_1168).operandIdx j idx 0).val
      = min (idx (ix2 (j 0) (0 : Fin 1))).toInt.toNat 2047 := fun j => by
    show GatherDims.start _ j idx 0 + GatherDims.batchCoord _ j 0 + GatherDims.offCoord _ j 0 = _
    rw [GatherDims.batchCoord_eq_zero _ _ _ (by decide), GatherDims.offCoord_eq_zero _ _ _ (by decide)]
    unfold GatherDims.start
    rw [dif_pos (by decide)]
    refine congrArg (fun i => min (idx i).toInt.toNat 2047) (funext fun b => Fin.ext ?_)
    match b with
    | ⟨0, _⟩ => rfl
    | ⟨1, _⟩ => rfl
  refine take_set _ _ _ _ _ (fun j a => ?_) (fun j k h => ?_)
  · match a with
    | ⟨0, _⟩ =>
      refine Eq.trans ?_ (congrArg₂ (· + ·) (st j).symm (rfl : (0 : Int) = _))
      have e := gs j
      have hj := hin (j 0)
      show ((GatherDims.operandIdx _ j idx 0).val : Int) = _
      rw [e]
      omega
    | ⟨1, _⟩ => rfl
    | ⟨2, _⟩ => rfl
  · funext a
    have h0 : j 0 = k 0 := hap _ _ (by
      have := h 0
      rw [st, st] at this
      exact add_right_cancel (b := (0 : Int)) this)
    match a with
    | ⟨0, _⟩ => exact h0
    | ⟨1, _⟩ =>
      have h1 : (0 : Int) + ((j 1).val : Int) = 0 + ((k 1).val : Int) := h 1
      exact Fin.ext (Int.ofNat.inj (Int.add_left_cancel h1))
    | ⟨2, _⟩ =>
      have h1 : (0 : Int) + ((j 2).val : Int) = 0 + ((k 2).val : Int) := h 2
      exact Fin.ext (Int.ofNat.inj (Int.add_left_cancel h1))

end Cert.Proof

end
-- ==== Proof.Pre.lean ====
/- What the precondition says of the arguments: no query entry is infinite, and the block table, as the column of indices
   that the reference takes and sets by, lies inside the cache and names no block twice. -/
module

public import proofs.«01_k».proof.Proof.Frames
public import proofs.«01_k».proof.Proof.Paged
public import proofs.«01_k».proof.Proof.Consts
public import Idealize.ShloMosaic.Lib.StableHlo.Predicate

@[expose] public section

noncomputable section

namespace Cert.Proof

open Idealize.ShloMosaic Cert.ReferenceIdeal Cert.ReferenceIdeal.Gen

/-- The column of indices that the reference makes of the flat block table: a negative entry counted from the end. -/
def column (b : IVec S2048 32) : IVec S2048x1 32 :=
  broadcastInDim S2048x1 ![0] bcast_S2048_S2048x1_0
    (select (cmpi .slt b (broadcastInDim S2048 ![] bcast_S_S2048 (constantI S_ 32 0#32)))
      (addi b (broadcastInDim S2048 ![] bcast_S_S2048 (constantI S_ 32 2048#32))) b)

/-- An entry that is not negative is its own index. -/
theorem column_apply (b : IVec S2048 32) (p : Fin 2048) (h : 0 ≤ (b (ix1 p)).toInt) : column b (ix2 p (0 : Fin 1)) = b (ix1 p) := by
  have e : IntOp.cmpi .slt (b (ix1 p)) 0#32 ≠ 1#1 := by
    unfold IntOp.cmpi
    rw [Ne, StableHlo.Predicate.ofBool_eq_one_iff]
    simpa [BitVec.slt] using h
  pointwise [column]
  exact if_neg e

variable {q : FVec Ideal S8x16x32x128 .f32} {k v : FVec Ideal S8x4096x8x128 .f32} {bt : IVec S8x256 32}

/-- Under the precondition no query entry is infinite. -/
theorem query_real (h : (Cert.Pre_blocks_distinct.fn (F := Ideal) q k v bt).1 = fun _ => 1#1) (j : S8x16x32x128.Idx) :
    ∃ r : ℝ, q j = (r : EReal) := by
  have h1 : (Cert.Pre_blocks_distinct.fn (F := Ideal) q k v bt).1 j = 1#1 := congrFun h j
  have h2 : Ideal.cmp .olt (max (q j) (-(q j))) (Ideal.ofBits .f32 0x7F800000#32) = 1#1 := h1
  rw [Consts.pos_inf, Ideal.cmp_olt, StableHlo.Predicate.ofBool_eq_one_iff, decide_eq_true_eq, max_lt_iff] at h2
  refine ⟨_, (EReal.coe_toReal h2.1.ne fun e => ?_).symm⟩
  rw [e] at h2
  exact absurd h2.2 (by simp)

/-- Under the precondition the table lies inside the cache. -/
theorem table_inside (h : (Cert.Pre_blocks_distinct.fn (F := Ideal) q k v bt).2.1 = fun _ => 1#1) (p : Fin 2048) :
    0 ≤ (shapeCast S2048 bt shapeCasts_S8x256_S2048 (ix1 p)).toInt ∧ (shapeCast S2048 bt shapeCasts_S8x256_S2048 (ix1 p)).toInt < 2048 := by
  have h1 := congrFun h (ix1 p)
  have h2 : IntOp.andi (IntOp.cmpi .sge (shapeCast S2048 bt shapeCasts_S8x256_S2048 (ix1 p)) 0#32)
      (IntOp.cmpi .slt (shapeCast S2048 bt shapeCasts_S8x256_S2048 (ix1 p)) 2048#32) = 1#1 := h1
  generalize shapeCast S2048 bt shapeCasts_S8x256_S2048 (ix1 p) = w at h2
  have both : ∀ a b : BitVec 1, IntOp.andi a b = 1#1 → a = 1#1 ∧ b = 1#1 := by decide
  obtain ⟨ha, hb⟩ := both _ _ h2
  unfold IntOp.cmpi at ha hb
  rw [StableHlo.Predicate.ofBool_eq_one_iff] at ha hb
  exact ⟨by simpa [BitVec.sle] using ha, by simpa [BitVec.slt] using hb⟩

/-- Under the precondition no two entries of the table are equal. -/
theorem table_apart (h : (Cert.Pre_blocks_distinct.fn (F := Ideal) q k v bt).2.2 = fun _ => 1#1) (p r : Fin 2048)
    (e : shapeCast S2048 bt shapeCasts_S8x256_S2048 (ix1 p) = shapeCast S2048 bt shapeCasts_S8x256_S2048 (ix1 r)) : p = r := by
  have h1 := congrFun h (ix2 p r)
  pointwise [Cert.Pre_blocks_distinct.fn] at h1 e
  rw [e] at h1
  have either : ∀ a b : BitVec 1, IntOp.ori a b = 1#1 → a = 0#1 → b = 1#1 := by decide
  have h2 := either _ _ h1 (by simp [IntOp.cmpi])
  rw [StableHlo.Predicate.cmpi_eq_iff] at h2
  have h3 := congrArg BitVec.toNat h2
  simp only [BitVec.toNat_ofNat] at h3
  exact Fin.ext (by omega)

/-- Under the precondition the column of indices lies inside the cache. -/
theorem column_inside (h : (Cert.Pre_blocks_distinct.fn (F := Ideal) q k v bt).2.1 = fun _ => 1#1) :
    Inside (column (shapeCast S2048 bt shapeCasts_S8x256_S2048)) := fun p => by
  rw [column_apply _ p (table_inside h p).1]
  exact table_inside h p

/-- Under the precondition it names no block twice. -/
theorem column_apart (h : (Cert.Pre_blocks_distinct.fn (F := Ideal) q k v bt).2.1 = fun _ => 1#1)
    (h' : (Cert.Pre_blocks_distinct.fn (F := Ideal) q k v bt).2.2 = fun _ => 1#1) :
    Apart (column (shapeCast S2048 bt shapeCasts_S8x256_S2048)) := fun p r e => by
  rw [column_apply _ p (table_inside h p).1, column_apply _ r (table_inside h r).1] at e
  exact table_apart h' p r (BitVec.eq_of_toInt_eq e)

end Cert.Proof

end
-- ==== Proof.Cache.lean ====
/- The reference's cache, entry by entry: an array quantised, coded, set in the cache, taken back, corrected and scaled is
   the array with each of its rows quantised. -/
module

public import proofs.«01_k».proof.Proof.Nibble
public import proofs.«01_k».proof.Proof.Pre

@[expose] public section

noncomputable section

namespace Cert.Proof

open Idealize.ShloMosaic Cert.ReferenceIdeal Cert.ReferenceIdeal.Gen Cert.ReferenceIdeal.Value

/-- An array with each row along its last axis quantised. -/
def quantised (x : FVec Ideal S8x4096x8x128 .f32) : FVec Ideal S8x4096x8x128 .f32 :=
  fun j => quant (fun d => x (ix4 (j 0) (j 1) (j 2) d)) (j 3)

/-- The scales of the rows of an array, as the reference computes them. -/
def scales (x : FVec Ideal S8x4096x8x128 .f32) : FVec Ideal S8x4096x8 .f32 :=
  maximumf (Host.divf (Host.reduce FloatOps.maximumf (Host.absf x) (constant S_ .f32 0xFF800000#32) reducesTo_S8x4096x8x128_S8x4096x8_d3 h_S_)
      (broadcastInDim S8x4096x8 ![] bcast_S_S8x4096x8 (constant S_ .f32 0x40E00000#32)))
    (broadcastInDim S8x4096x8 ![] bcast_S_S8x4096x8 (constant S_ .f32 0x322BCC77#32))

/-- The nibbles of an array, as the reference computes them. -/
def nibbles (x : FVec Ideal S8x4096x8x128 .f32) : IVec S8x4096x8x128 32 :=
  addi (fptosi 32 (minimumf (broadcastInDim S8x4096x8x128 ![] bcast_S_S8x4096x8x128 (sitofp .f32 (constantI S_ 32 7#32)))
    (maximumf (broadcastInDim S8x4096x8x128 ![] bcast_S_S8x4096x8x128 (sitofp .f32 (constantI S_ 32 4294967288#32)))
      (Host.roundeven (Host.divf x (broadcastInDim S8x4096x8x128 ![0, 1, 2, 3] bcast_S8x4096x8x1_S8x4096x8x128_0_1_2_3
        (broadcastInDim S8x4096x8x1 ![0, 1, 2] bcast_S8x4096x8_S8x4096x8x1_0_1_2 (scales x))))))))
    (broadcastInDim S8x4096x8x128 ![] bcast_S_S8x4096x8x128 (constantI S_ 32 8#32))

/-- Code words set in the cache by a table and taken back. -/
def cachedWords (b : IVec S2048 32) (w : IVec S8x4096x8x128 32) : IVec S8x4096x8x128 32 :=
  shapeCast _ (Host.gather gather_S2048x16x8x128_S2048x1_S2048x16x8x128_123_0_n_n_0_1_1168128
    (Host.scatter scatter_S2048x16x8x128_S2048x1_S2048x16x8x128_123_0_0_1 (fun _ b => b)
      (broadcastInDim S2048x16x8x128 ![] bcast_S_S2048x16x8x128 (constantI S_ 32 0#32)) (column b)
      (shapeCast _ w shapeCasts_S8x4096x8x128_S2048x16x8x128)) (column b)) shapeCasts_S2048x16x8x128_S8x4096x8x128

/-- Scales set in the cache by a table and taken back. -/
def cachedScales (b : IVec S2048 32) (t : FVec Ideal S8x4096x8 .f32) : FVec Ideal S8x4096x8 .f32 :=
  shapeCast _ (Host.gather gather_S2048x16x8_S2048x1_S2048x16x8_12_0_n_n_0_1_1168
    (Host.scatter scatter_S2048x16x8_S2048x1_S2048x16x8_12_0_0_1 (fun _ b => b)
      (broadcastInDim S2048x16x8 ![] bcast_S_S2048x16x8 (constant S_ .f32 0x00000000#32)) (column b)
      (shapeCast _ t shapeCasts_S8x4096x8_S2048x16x8)) (column b)) shapeCasts_S2048x16x8_S8x4096x8

/-- The reference's floats of the cache: the corrected words' nibbles less eight, times the scales. -/
def dequant (w : IVec S8x4096x8x128 32) (t : FVec Ideal S8x4096x8 .f32) : FVec Ideal S8x4096x8x128 .f32 :=
  mulf (subf (sitofp .f32 (fun j => nibble (correct (w j))))
      (broadcastInDim S8x4096x8x128 ![] bcast_S_S8x4096x8x128 (constant S_ .f32 0x41000000#32)))
    (broadcastInDim S8x4096x8x128 ![0, 1, 2, 3] bcast_S8x4096x8x1_S8x4096x8x128_0_1_2_3
      (broadcastInDim S8x4096x8x1 ![0, 1, 2] bcast_S8x4096x8_S8x4096x8x1_0_1_2 t))

/-- The scale of a row. -/
theorem scales_apply (x : FVec Ideal S8x4096x8x128 .f32) (b : Fin 8) (s : Fin 4096) (h : Fin 8) :
    scales x (ix3 b s h) = scale (fun d => x (ix4 b s h d)) := by
  pointwise [scales]
  rw [Consts.seven, Consts.neg_inf]
  rfl

/-- The word seven as a float. -/
theorem float_seven : FloatOps.sitofp (F := Ideal) .f32 7#32 = ((7 : ℝ) : EReal) := by
  show (((7#32 : BitVec 32).toInt : ℝ) : EReal) = _
  rw [show (7#32 : BitVec 32).toInt = 7 by decide]
  norm_num

/-- The word minus eight as a float. -/
theorem float_neg_eight : FloatOps.sitofp (F := Ideal) .f32 4294967288#32 = ((-8 : ℝ) : EReal) := by
  show (((4294967288#32 : BitVec 32).toInt : ℝ) : EReal) = _
  rw [show (4294967288#32 : BitVec 32).toInt = -8 by decide]
  norm_num

/-- The nibble of an entry: eight more than its level. -/
theorem nibbles_apply (x : FVec Ideal S8x4096x8x128 .f32) (b : Fin 8) (s : Fin 4096) (h : Fin 8) (d : Fin 128) :
    nibbles x (ix4 b s h d)
      = IntOp.addi (Ideal.fptosi 32 (level (Ideal.div (x (ix4 b s h d)) (scale fun d => x (ix4 b s h d))))) 8#32 := by
  pointwise [nibbles, scales_apply]
  rw [float_seven, float_neg_eight]
  rfl

variable {b : IVec S2048 32} (hin : Inside (column b)) (hap : Apart (column b))

include hin hap in
/-- The words come back. -/
theorem cachedWords_eq (w : IVec S8x4096x8x128 32) : cachedWords b w = w := by
  rw [cachedWords, words_take_set hin hap, shapeCast_comp, shapeCast_id]

include hin hap in
/-- The scales come back. -/
theorem cachedScales_eq (t : FVec Ideal S8x4096x8 .f32) : cachedScales b t = t := by
  rw [cachedScales, scales_take_set hin hap, shapeCast_comp, shapeCast_id]

include hin hap in
/-- The floats of the cache are the quantised array. -/
theorem dequant_cached (x : FVec Ideal S8x4096x8x128 .f32) :
    dequant (cachedWords b fun j => encode (nibbles x j)) (cachedScales b (scales x)) = quantised x := by
  rw [cachedWords_eq hin hap, cachedScales_eq hin hap]
  funext j
  obtain ⟨b, s, h, d, rfl⟩ : ∃ b s h d, j = ix4 b s h d := ⟨j 0, j 1, j 2, j 3, by idx_ext⟩
  pointwise [dequant, scales_apply, nibbles_apply]
  rw [Consts.eight]
  exact congrArg (· * scale fun d => x (ix4 b s h d)) (level_through _)

variable (V : Valuation τ sig (Elt Ideal))

/-- The words of the keys that the reference decodes. -/
theorem key_words : res_main_v89 V
    = cachedWords (res_main_v63 V) fun j => encode (nibbles (V (Proc.devRef .tc main_arg1)) j) := rfl

/-- The words of the values. -/
theorem value_words : res_main_v285 V
    = cachedWords (res_main_v259 V) fun j => encode (nibbles (V (Proc.devRef .tc main_arg2)) j) := rfl

/-- The keys' corrected words. -/
theorem key_corrected : res_main_v164 V = fun j => correct (res_main_v89 V j) := rfl

/-- The values'. -/
theorem value_corrected : res_main_v360 V = fun j => correct (res_main_v285 V j) := rfl

end Cert.Proof

end
-- ==== Proof.Softmax.lean ====
/- The softmax's algebra. The kernel sums the values weighted by exponentials and divides once by the exponentials' sum; the
   reference divides each exponential and sums afterwards, and takes the maximum once more against minus infinity. Over real
   scores and real values the two are equal. -/
module

public import proofs.«01_k».proof.Proof.Nibble

@[expose] public section

noncomputable section

namespace Cert.Proof

open Idealize.ShloMosaic

/-- A sum of reals, as an extended real. -/
theorem coe_sum {n : Nat} (f : Fin n → ℝ) : ((∑ i, f i : ℝ) : EReal) = ∑ i, (f i : EReal) := by
  induction (Finset.univ : Finset (Fin n)) using Finset.induction_on with
  | empty => simp
  | insert a s h ih => rw [Finset.sum_insert h, Finset.sum_insert h, EReal.coe_add, ih]

/-- The greatest of finitely many reals, at least one, is a real. -/
theorem fold_max_real {n : Nat} (x : Fin n → ℝ) (i : Fin n) :
    ∃ m : ℝ, (Finset.univ.fold max ⊥ fun j => (x j : EReal)) = (m : EReal) := by
  have hb : Finset.univ.fold max ⊥ (fun j => (x j : EReal)) ≠ ⊥ := by
    intro h
    have h1 : (x i : EReal) ≤ Finset.univ.fold max ⊥ fun j => (x j : EReal) :=
      (Finset.le_fold_max _).mpr (Or.inr ⟨i, Finset.mem_univ i, le_rfl⟩)
    rw [h] at h1
    exact absurd h1 (by simp)
  have ht : Finset.univ.fold max ⊥ (fun j => (x j : EReal)) ≠ ⊤ := by
    intro h
    have h1 : Finset.univ.fold max ⊥ (fun j => (x j : EReal)) < ⊤ :=
      (Finset.fold_max_lt _).mpr ⟨bot_lt_top, fun j _ => EReal.coe_lt_top _⟩
    exact absurd h1 (by rw [h]; exact lt_irrefl _)
  exact ⟨_, (EReal.coe_toReal ht hb).symm⟩

/-- The exponential of a score less the greatest score. -/
def weight (X : Fin 4096 → EReal) (s : Fin 4096) : EReal := Ideal.exp (X s - Finset.univ.fold max ⊥ X)

/-- The values weighted by the exponentials, divided by the exponentials' sum. -/
def attend (X v : Fin 4096 → EReal) : EReal := Ideal.div (∑ s, weight X s * v s) (∑ s, weight X s)

/-- The same with each exponential divided by the sum first. -/
theorem attend_eq (X v : Fin 4096 → EReal) (hX : ∀ s, ∃ r : ℝ, X s = (r : EReal)) (hv : ∀ s, ∃ r : ℝ, v s = (r : EReal)) :
    ∑ s, v s * Ideal.div (weight X s) (∑ s, weight X s) = attend X v := by
  choose x hx using hX
  choose w hw using hv
  obtain rfl : X = fun s => (x s : EReal) := funext hx
  obtain rfl : v = fun s => (w s : EReal) := funext hw
  obtain ⟨m, hm⟩ := fold_max_real x 0
  have hp : ∀ s, weight (fun s => (x s : EReal)) s = ((Real.exp (x s - m) : ℝ) : EReal) := fun s => by
    rw [weight, hm, ← EReal.coe_sub, Ideal.exp_coe]
  have hl : (∑ s, Real.exp (x s - m)) ≠ 0 :=
    (Finset.sum_pos (fun s _ => Real.exp_pos _) ⟨(0 : Fin 4096), Finset.mem_univ _⟩).ne'
  unfold attend
  simp only [hp]
  rw [← coe_sum]
  simp only [Ideal.div_coe hl, ← EReal.coe_mul]
  rw [← coe_sum, ← coe_sum, ← EReal.coe_mul, Finset.sum_mul]
  refine congrArg _ (Finset.sum_congr rfl fun s _ => ?_)
  ring

end Cert.Proof

end
-- ==== Proof.Reference.lean ====
/- The reference's result, entry by entry: the attention of a query over the quantised keys and values. -/
module

public import proofs.«01_k».proof.Proof.Cache
public import proofs.«01_k».proof.Proof.Softmax

@[expose] public section

noncomputable section

namespace Cert.Proof

open Idealize.ShloMosaic Cert.ReferenceIdeal Cert.ReferenceIdeal.Gen Cert.ReferenceIdeal.Value

/-- The score of query number `i` against key `s`: the scaled product where the key is not after the query, a large negative
    number elsewhere. -/
def score (q : Fin 128 → EReal) (K : Fin 4096 → Fin 128 → EReal) (i : Fin 16) (s : Fin 4096) : EReal :=
  if s.val ≤ 4080 + i.val then (∑ d, q d * K s d) * (((Real.sqrt 128)⁻¹ : ℝ) : EReal) else Ideal.ofBits .f32 0xF149F2CA#32

/-- Entry `d` of query `i` of head `n` of batch `b`, attended: four heads share each of the keys' and values' heads. -/
def attended (q : FVec Ideal S8x16x32x128 .f32) (k v : FVec Ideal S8x4096x8x128 .f32) (b : Fin 8) (i : Fin 16) (n : Fin 32)
    (d : Fin 128) : EReal :=
  attend (score (fun e => q (ix4 b i n e)) (fun s e => quantised k (ix4 b s (⟨n.val / 4, by omega⟩ : Fin 8) e)) i)
    (fun s => quantised v (ix4 b s (⟨n.val / 4, by omega⟩ : Fin 8) d))

/-- The reference's masked scores of a query array and a key array. -/
def refScores (q : FVec Ideal S8x16x32x128 .f32) (K : FVec Ideal S8x4096x8x128 .f32) : FVec Ideal S8x8x4x16x4096 .f32 :=
  select (broadcastInDim S8x8x4x16x4096 ![0, 1, 2, 3, 4] bcast_S1x1x1x16x4096_S8x8x4x16x4096_0_1_2_3_4
      (broadcastInDim S1x1x1x16x4096 ![3, 4] bcast_S16x4096_S1x1x1x16x4096_3_4
        (cmpi .sle (broadcastInDim S16x4096 ![0, 1] bcast_S1x4096_S16x4096_0_1
            (broadcastInDim S1x4096 ![1] bcast_S4096_S1x4096_1 (iotaInDim S4096 32 0)))
          (broadcastInDim S16x4096 ![0, 1] bcast_S16x1_S16x4096_0_1
            (broadcastInDim S16x1 ![0] bcast_S16_S16x1_0
              (addi (broadcastInDim S16 ![] bcast_S_S16 (constantI S_ 32 4080#32)) (iotaInDim S16 32 0)))))))
    (Host.divf (transpose S8x8x4x16x4096 [0, 1, 4, 3, 2]
        (Host.dotGeneral dot_S8x4096x8x128_S8x16x8x4x128_S8x8x4096x16x4_3_4_1_13_02_02 none K
          (shapeCast _ q shapeCasts_S8x16x32x128_S8x16x8x4x128)) transposes_S8x8x4096x16x4_S8x8x4x16x4096_0_1_4_3_2)
      (broadcastInDim S8x8x4x16x4096 ![] bcast_S_S8x8x4x16x4096 (Host.sqrt (constant S_ .f32 0x43000000#32))))
    (broadcastInDim S8x8x4x16x4096 ![] bcast_S_S8x8x4x16x4096 (constant S_ .f32 0xF149F2CA#32))

/-- The greatest score of each row. -/
def refMax (X : FVec Ideal S8x8x4x16x4096 .f32) : FVec Ideal S8x8x4x16 .f32 :=
  Host.reduce FloatOps.maximumf X (constant S_ .f32 0xFF800000#32) reducesTo_S8x8x4x16x4096_S8x8x4x16_d4 h_S_

/-- The exponentials of the scores less their greatest. -/
def refWeights (X : FVec Ideal S8x8x4x16x4096 .f32) : FVec Ideal S8x8x4x16x4096 .f32 :=
  Host.exp (subf X (broadcastInDim S8x8x4x16x4096 ![0, 1, 2, 3, 4] bcast_S8x8x4x16x1_S8x8x4x16x4096_0_1_2_3_4
    (broadcastInDim S8x8x4x16x1 ![0, 1, 2, 3] bcast_S8x8x4x16_S8x8x4x16x1_0_1_2_3
      (maximumf (broadcastInDim S8x8x4x16 ![] bcast_S_S8x8x4x16 (constant S_ .f32 0xFF800000#32))
        (refMax X)))))

/-- The values weighted by the divided exponentials, in the result's layout. -/
def refOut (P : FVec Ideal S8x8x4x16x4096 .f32) (v : FVec Ideal S8x4096x8x128 .f32) : FVec Ideal S8x16x32x128 .f32 :=
  shapeCast _ (transpose S8x16x8x4x128 [0, 4, 1, 3, 2]
    (Host.dotGeneral dot_S8x4096x8x128_S8x8x4x16x4096_S8x8x128x4x16_1_4_3_23_02_01 none v
      (Host.divf P (broadcastInDim S8x8x4x16x4096 ![0, 1, 2, 3, 4] bcast_S8x8x4x16x1_S8x8x4x16x4096_0_1_2_3_4
        (broadcastInDim S8x8x4x16x1 ![0, 1, 2, 3] bcast_S8x8x4x16_S8x8x4x16x1_0_1_2_3
          (Host.reduceAdd P (constant S_ .f32 0x00000000#32) reducesTo_S8x8x4x16x4096_S8x8x4x16_d4 h_S_)))))
    transposes_S8x8x128x4x16_S8x16x8x4x128_0_4_1_3_2) shapeCasts_S8x16x8x4x128_S8x16x32x128

/-- A score of the reference: the product of the key with the query is the query's with the key, and the quotient by the root
    of 128 the product with its inverse. -/
theorem refScores_apply (q : FVec Ideal S8x16x32x128 .f32) (K : FVec Ideal S8x4096x8x128 .f32) (b h : Fin 8) (g : Fin 4)
    (i : Fin 16) (s : Fin 4096) :
    refScores q K (ix5 b h g i s)
      = score (fun e => q (ix4 b i (⟨h.val * 4 + g.val, by omega⟩ : Fin 32) e)) (fun s e => K (ix4 b s h e)) i s := by
  have hs : (Real.sqrt 128) ≠ 0 := by positivity
  have hr : Ideal.sqrt (Ideal.ofBits .f32 0x43000000#32) = ((Real.sqrt 128 : ℝ) : EReal) := by
    rw [Consts.width, Ideal.sqrt_coe, if_neg (by norm_num)]
  have hm : IntOp.cmpi .sle (BitVec.ofNat 32 s.val) (IntOp.addi 4080#32 (BitVec.ofNat 32 i.val)) = 1#1 ↔ s.val ≤ 4080 + i.val := by
    have ha : (IntOp.addi 4080#32 (BitVec.ofNat 32 i.val)).toNat = 4080 + i.val := by
      show (4080#32 + BitVec.ofNat 32 i.val).toNat = _
      simp only [BitVec.toNat_add, BitVec.toNat_ofNat]
      omega
    have hb : (BitVec.ofNat 32 s.val).toNat = s.val := by simp only [BitVec.toNat_ofNat]; omega
    rw [StableHlo.Predicate.sle_iff_toNat (by omega) (by omega), ha, hb]
  pointwise [refScores]
  rw [hr, Ideal.div_coe hs, one_div, score]
  simp only [mul_comm (K _)]
  by_cases h : s.val ≤ 4080 + i.val
  · rw [if_pos h]; exact if_pos (hm.mpr h)
  · rw [if_neg h]; exact if_neg fun e => h (hm.mp e)

/-- The greatest score of a row. -/
theorem refMax_apply (X : FVec Ideal S8x8x4x16x4096 .f32) (b h : Fin 8) (g : Fin 4) (i : Fin 16) :
    refMax X (ix4 b h g i) = Finset.univ.fold max ⊥ fun s => X (ix5 b h g i s) := by
  rw [refMax, Host.reduce_eq_fold, Shape.ReducesTo.fold_fiber_r5_a4]
  exact congrArg (fun z => Finset.univ.fold max z fun s => X (ix5 b h g i s)) Consts.neg_inf

/-- One number per row, spread along the row. -/
def spread (Y : FVec Ideal S8x8x4x16 .f32) : FVec Ideal S8x8x4x16x4096 .f32 :=
  broadcastInDim S8x8x4x16x4096 ![0, 1, 2, 3, 4] bcast_S8x8x4x16x1_S8x8x4x16x4096_0_1_2_3_4
    (broadcastInDim S8x8x4x16x1 ![0, 1, 2, 3] bcast_S8x8x4x16_S8x8x4x16x1_0_1_2_3 Y)

/-- Its entry. -/
theorem spread_apply (Y : FVec Ideal S8x8x4x16 .f32) (b h : Fin 8) (g : Fin 4) (i : Fin 16) (s : Fin 4096) :
    spread Y (ix5 b h g i s) = Y (ix4 b h g i) := by
  pointwise [spread]

/-- The maximum with minus infinity changes nothing. -/
theorem floor_apply (Y : FVec Ideal S8x8x4x16 .f32) (j : S8x8x4x16.Idx) :
    maximumf (broadcastInDim S8x8x4x16 ![] bcast_S_S8x8x4x16 (constant S_ .f32 0xFF800000#32)) Y j = Y j := by
  show max (Ideal.ofBits .f32 0xFF800000#32) (Y j) = Y j
  rw [Consts.neg_inf, max_eq_right bot_le]

/-- A weight of the reference: the greatest score is taken once more against minus infinity. -/
theorem refWeights_apply (X : FVec Ideal S8x8x4x16x4096 .f32) (b h : Fin 8) (g : Fin 4) (i : Fin 16) (s : Fin 4096) :
    refWeights X (ix5 b h g i s) = weight (fun s => X (ix5 b h g i s)) s := by
  have e : refWeights X (ix5 b h g i s) = Ideal.exp (X (ix5 b h g i s) - spread (maximumf (broadcastInDim S8x8x4x16 ![]
      bcast_S_S8x8x4x16 (constant S_ .f32 0xFF800000#32)) (refMax X)) (ix5 b h g i s)) := rfl
  rw [e, spread_apply, floor_apply, refMax_apply, weight]

/-- An entry of the result, of the weights and the values. -/
theorem refOut_apply (P : FVec Ideal S8x8x4x16x4096 .f32) (v : FVec Ideal S8x4096x8x128 .f32) (b : Fin 8) (i : Fin 16)
    (n : Fin 32) (d : Fin 128) :
    refOut P v (ix4 b i n d) = ∑ s : Fin 4096, v (ix4 b s (⟨n.val / 4, by omega⟩ : Fin 8) d)
      * Ideal.div (P (ix5 b (⟨n.val / 4, by omega⟩ : Fin 8) (⟨n.val % 4, by omega⟩ : Fin 4) i s))
        (∑ t : Fin 4096, P (ix5 b (⟨n.val / 4, by omega⟩ : Fin 8) (⟨n.val % 4, by omega⟩ : Fin 4) i t)) := by
  pointwise [refOut]

/-- A score is a real, where the query and the keys are. -/
theorem score_real (q : Fin 128 → EReal) (K : Fin 4096 → Fin 128 → EReal) (hq : ∀ d, ∃ r : ℝ, q d = (r : EReal))
    (hK : ∀ s d, ∃ r : ℝ, K s d = (r : EReal)) (i : Fin 16) (s : Fin 4096) : ∃ r : ℝ, score q K i s = (r : EReal) := by
  unfold score
  split
  · choose x hx using hq
    choose y hy using hK s
    refine ⟨(∑ d, x d * y d) * (Real.sqrt 128)⁻¹, ?_⟩
    simp only [hx, hy, ← EReal.coe_mul]
    rw [← coe_sum, ← EReal.coe_mul]
  · exact Consts.masked

/-- The reference's result of a real query array and the quantised keys and values is the attention. -/
theorem refOut_attended (q : FVec Ideal S8x16x32x128 .f32) (k v : FVec Ideal S8x4096x8x128 .f32)
    (hq : ∀ j, ∃ r : ℝ, q j = (r : EReal)) (b : Fin 8) (i : Fin 16) (n : Fin 32) (d : Fin 128) :
    refOut (refWeights (refScores q (quantised k))) (quantised v) (ix4 b i n d) = attended q k v b i n d := by
  have hn : (⟨n.val / 4 * 4 + n.val % 4, by omega⟩ : Fin 32) = n := Fin.ext (by show n.val / 4 * 4 + n.val % 4 = _; omega)
  rw [refOut_apply]
  simp only [refWeights_apply, refScores_apply]
  simp only [hn]
  exact attend_eq _ _ (score_real _ _ (fun e => hq _) (fun s e => quant_real _ _) i) fun s => quant_real _ _

variable (V : Valuation τ sig (Elt Ideal))

/-- The printed scores, of the queries and the floats of the cached keys. -/
theorem printed_scores : res_main_v408 V = refScores (V (Proc.devRef .tc main_arg0))
    (dequant (res_main_v89 V) (cachedScales (res_main_v63 V) (scales (V (Proc.devRef .tc main_arg1))))) := rfl

/-- The printed weights, of the printed scores. -/
theorem printed_weights : res_main_v415 V = refWeights (res_main_v408 V) := rfl

/-- The attention, as an array. -/
def attention (q : FVec Ideal S8x16x32x128 .f32) (k v : FVec Ideal S8x4096x8x128 .f32) : FVec Ideal S8x16x32x128 .f32 :=
  fun j => attended q k v (j 0) (j 1) (j 2) (j 3)

/-- The printed result is the attention, where the precondition holds of the arguments. -/
theorem printed_result
    (h : (Cert.Pre_blocks_distinct.fn (F := Ideal) (V (Proc.devRef .tc main_arg0)) (V (Proc.devRef .tc main_arg1))
      (V (Proc.devRef .tc main_arg2)) (V (Proc.devRef .tc main_arg3))).1 = fun _ => 1#1)
    (h' : (Cert.Pre_blocks_distinct.fn (F := Ideal) (V (Proc.devRef .tc main_arg0)) (V (Proc.devRef .tc main_arg1))
      (V (Proc.devRef .tc main_arg2)) (V (Proc.devRef .tc main_arg3))).2.1 = fun _ => 1#1)
    (h'' : (Cert.Pre_blocks_distinct.fn (F := Ideal) (V (Proc.devRef .tc main_arg0)) (V (Proc.devRef .tc main_arg1))
      (V (Proc.devRef .tc main_arg2)) (V (Proc.devRef .tc main_arg3))).2.2 = fun _ => 1#1) :
    refOut (res_main_v415 V)
        (dequant (res_main_v285 V) (cachedScales (res_main_v259 V) (scales (V (Proc.devRef .tc main_arg2)))))
      = attention (V (Proc.devRef .tc main_arg0)) (V (Proc.devRef .tc main_arg1)) (V (Proc.devRef .tc main_arg2)) := by
  have hk : res_main_v63 V = shapeCast S2048 (V (Proc.devRef .tc main_arg3)) shapeCasts_S8x256_S2048 := rfl
  have hv : res_main_v259 V = shapeCast S2048 (V (Proc.devRef .tc main_arg3)) shapeCasts_S8x256_S2048 := rfl
  rw [printed_weights, printed_scores, key_words, value_words, hk, hv,
    dequant_cached (column_inside h') (column_apart h' h''), dequant_cached (column_inside h') (column_apart h' h'')]
  funext j
  obtain ⟨b, i, n, d, rfl⟩ : ∃ b i n d, j = ix4 b i n d := ⟨j 0, j 1, j 2, j 3, by idx_ext⟩
  exact refOut_attended _ _ _ (fun j => query_real h j) b i n d

end Cert.Proof

end
-- ==== Proof.Payload.lean ====
/- What the kernel's body computes of its blocks, entry by entry: the attention of the block's queries over the block's
   quantised keys and values. -/
module

public import proofs.«01_k».proof.Proof.Gen.KernelIdeal.Frame
public import proofs.«01_k».proof.Proof.Reference

@[expose] public section

noncomputable section

namespace Cert.Proof

open Idealize.ShloMosaic Cert.KernelIdeal Cert.KernelIdeal.Gen

/-- An entry of the quantised keys. -/
theorem keys_apply (x : Vec Ideal S1x4096x128 .f32) (p : Fin 4096) (d : Fin 128) :
    k0_pay3 x (ix2 p d) = quant (fun e => x (ix3 (0 : Fin 1) p e)) d := by
  pointwise [k0_pay3]
  rw [Consts.seven, Consts.neg_eight, Consts.neg_inf]
  rfl

/-- The values are quantised as the keys are. -/
theorem values_eq (x : Vec Ideal S1x4096x128 .f32) : k0_pay4 x = k0_pay3 x := rfl

/-- The scaled and masked scores. -/
def kScores (q : FVec Ideal S64x128 .f32) (K : FVec Ideal S4096x128 .f32) : FVec Ideal S64x4096 .f32 :=
  have r : IVec S64x4096 32 := iota .tc S64x4096 32 [0] iota_S64x4096_d0_w32
  have down : IVec S64x4096 32 := divsi r (broadcast S64x4096 4#32)
  have sign : IVec S64x4096 32 := subi (extui 32 (cmpi .sgt r (broadcast S64x4096 0#32)) natLt_1_32)
    (extui 32 (cmpi .slt r (broadcast S64x4096 0#32)) natLt_1_32)
  have odd : IVec S64x4096 1 := andi
    (cmpi .ne sign (broadcast S64x4096 (Scalar.subi (Scalar.extui (Scalar.cmpi .sgt 4#32 0#32)) (Scalar.extui (Scalar.cmpi .slt 4#32 0#32)))))
    (cmpi .ne (remsi r (broadcast S64x4096 4#32)) (broadcast S64x4096 0#32))
  select (cmpi .sle (iota .tc S64x4096 32 [1] iota_S64x4096_d1_w32)
      (addi (broadcast S64x4096 4080#32) (select odd (subi down (broadcast S64x4096 1#32)) down)))
    (mulf (matmul dot_S64x128_S4096x128_S64x4096_1_1_0_0_n_n none q K (constant S64x4096 .f32 0x00000000#32))
      (broadcast S64x4096 (Named.named κ "s" 0x3DB504F3#32)))
    (broadcast S64x4096 (Scalar.ofBits .f32 0xF149F2CA#32))

/-- The greatest score of each row. -/
def kMax (X : FVec Ideal S64x4096 .f32) : FVec Ideal S64 .f32 :=
  multiReduction .maximumf [1] S64 X 0xFF800000#32 reduces_S64x4096_S64 (.inl rfl) rfl

/-- The exponentials of the scores less their greatest. -/
def kWeights (X : FVec Ideal S64x4096 .f32) : FVec Ideal S64x4096 .f32 :=
  exp (subf X (broadcastTo S64x4096 (shapeCast S64x1 (kMax X) shapeCasts_S64_S64x1) broadcasts_S64x1_S64x4096))

/-- The weighted values over the weights' sum. -/
def kOut (P : FVec Ideal S64x4096 .f32) (v : FVec Ideal S4096x128 .f32) : FVec Ideal S64x128 .f32 :=
  divf (matmul dot_S64x4096_S4096x128_S64x128_1_0_0_1_n_n none P v (constant S64x128 .f32 0x00000000#32))
    (broadcastTo S64x128 (shapeCast S64x1 (multiReduction .add [1] S64 P 0x00000000#32 reduces_S64x4096_S64 (.inl rfl) rfl)
      shapeCasts_S64_S64x1) broadcasts_S64x1_S64x128)

/-- The body's arithmetic is these in turn. -/
theorem body_eq (q : FVec Ideal S64x128 .f32) (K v : FVec Ideal S4096x128 .f32) : k0_pay5 q K v = kOut (kWeights (kScores q K)) v := rfl

/-- The last key that row `r` sees, as the body computes it in words: rows go four to a query, and the division rounds down. -/
theorem last_key : ∀ r : Fin 64, IntOp.addi 4080#32
    (Scalar.select
      (IntOp.andi
        (IntOp.cmpi .ne
          (IntOp.subi (BitVec.setWidth 32 (IntOp.cmpi .sgt (BitVec.ofNat 32 r.val) 0#32))
            (BitVec.setWidth 32 (IntOp.cmpi .slt (BitVec.ofNat 32 r.val) 0#32)))
          (Scalar.subi (Scalar.extui (Scalar.cmpi .sgt 4#32 0#32)) (Scalar.extui (Scalar.cmpi .slt 4#32 0#32))))
        (IntOp.cmpi .ne (IntOp.remsi .vector (BitVec.ofNat 32 r.val) 4#32) 0#32))
      (IntOp.subi (IntOp.divsi .vector (BitVec.ofNat 32 r.val) 4#32) 1#32)
      (IntOp.divsi .vector (BitVec.ofNat 32 r.val) 4#32)) = BitVec.ofNat 32 (4080 + r.val / 4) := by
  decide +kernel

/-- A score of the body. -/
theorem kScores_apply (q : FVec Ideal S64x128 .f32) (K : FVec Ideal S4096x128 .f32) (r : Fin 64) (s : Fin 4096) :
    kScores q K (ix2 r s) = score (fun e => q (ix2 r e)) (fun s e => K (ix2 s e)) (⟨r.val / 4, by omega⟩ : Fin 16) s := by
  have hm : IntOp.cmpi .sle (BitVec.ofNat 32 s.val) (BitVec.ofNat 32 (4080 + r.val / 4)) = 1#1 ↔ s.val ≤ 4080 + r.val / 4 :=
    StableHlo.Predicate.sle_ofNat_iff _ _ (by omega) (by omega)
  have hs : Named.named (F := Ideal) κ "s" (φ := .f32) 0x3DB504F3#32 = (((Real.sqrt 128)⁻¹ : ℝ) : EReal) :=
    IdealRules.named_const.ideal_named_scalar _ _ _ _ rfl
  pointwise [kScores]
  rw [last_key, hs, score]
  by_cases h : s.val ≤ 4080 + r.val / 4
  · rw [if_pos h]; exact if_pos (hm.mpr h)
  · rw [if_neg h]; exact if_neg fun e => h (hm.mp e)

/-- The greatest score of a row. -/
theorem kMax_apply (X : FVec Ideal S64x4096 .f32) (r : Fin 64) :
    kMax X (ix1 r) = Finset.univ.fold max ⊥ fun s => X (ix2 r s) := by
  pointwise [kMax]
  rw [Consts.neg_inf]

/-- A weight of the body. -/
theorem kWeights_apply (X : FVec Ideal S64x4096 .f32) (r : Fin 64) (s : Fin 4096) :
    kWeights X (ix2 r s) = weight (fun s => X (ix2 r s)) s := by
  pointwise [kWeights, kMax_apply]
  rw [weight]

/-- An entry of the quotient. -/
theorem kOut_apply (P : FVec Ideal S64x4096 .f32) (v : FVec Ideal S4096x128 .f32) (r : Fin 64) (d : Fin 128) :
    kOut P v (ix2 r d) = Ideal.div (∑ s, P (ix2 r s) * v (ix2 s d)) (∑ s, P (ix2 r s)) := by
  pointwise [kOut]

/-- An entry of the block that the body stores. -/
theorem stored_apply (q : Vec Ideal S1x1x64x128 .f32) (k v : Vec Ideal S1x4096x128 .f32) (r : Fin 64) (d : Fin 128) :
    k0_pay1 (k0_pay5 (k0_pay2 q) (k0_pay3 k) (k0_pay4 v)) (ix4 (0 : Fin 1) (0 : Fin 1) r d)
      = attend (score (fun e => q (ix4 (0 : Fin 1) (0 : Fin 1) r e)) (fun s => quant fun e => k (ix3 (0 : Fin 1) s e))
          (⟨r.val / 4, by omega⟩ : Fin 16))
        (fun s => quant (fun e => v (ix3 (0 : Fin 1) s e)) d) := by
  rw [body_eq, values_eq]
  have hq : ∀ e, k0_pay2 q (ix2 r e) = q (ix4 (0 : Fin 1) (0 : Fin 1) r e) := fun e => by pointwise [k0_pay2]
  have ho : ∀ z : FVec Ideal S64x128 .f32, k0_pay1 z (ix4 (0 : Fin 1) (0 : Fin 1) r d) = z (ix2 r d) := fun z => by
    pointwise [k0_pay1]
  rw [ho, kOut_apply]
  simp only [kWeights_apply, kScores_apply, keys_apply, hq]
  rfl

end Cert.Proof

end
-- ==== Proof.KernelValue.lean ====
/- What the kernel leaves in its result array. Every grid point writes back its own block of one array, `grouped`, and the
   blocks tile it; the reshapes and transposes around the launch make that array the attention of the arguments. -/
module

public import proofs.«01_k».proof.Proof.Payload
public import Idealize.ShloMosaic.Lib.Pipeline.Value

@[expose] public section

noncomputable section

namespace Cert.Proof

open Idealize.ShloMosaic Idealize.ShloMosaic.TcCoe Cert.KernelIdeal Cert.KernelIdeal.Gen Idealize.SL.Sem

/-- The attention with the rows grouped by key head: row `r` of key head `h` belongs to query `r / 4`, and key head `h`
    has columns `128 h` to `128 h + 127` of the keys and the values. -/
def grouped (q : FVec Ideal S8x8x64x128 .f32) (k v : FVec Ideal S8x4096x1024 .f32) (b h : Fin 8) (r : Fin 64) (d : Fin 128) : EReal :=
  attend (score (fun e => q (ix4 b h r e))
      (fun s => quant fun e : Fin 128 => k (ix3 b s (⟨h.val * 128 + e.val, by omega⟩ : Fin 1024))) (⟨r.val / 4, by omega⟩ : Fin 16))
    (fun s => quant (fun e : Fin 128 => v (ix3 b s (⟨h.val * 128 + e.val, by omega⟩ : Fin 1024))) d)

/-- The same, as an array. -/
def groupedArray (q : FVec Ideal S8x8x64x128 .f32) (k v : FVec Ideal S8x4096x1024 .f32) : FVec Ideal S8x8x64x128 .f32 :=
  fun j => grouped q k v (j 0) (j 1) (j 2) (j 3)

/-- Point `t` is on batch row `t / 8`. -/
def rowAt (t : Fin grid0.N) : Fin 8 := ⟨t.val / 8, by have h : t.val < 64 := N_0 ▸ t.isLt; omega⟩

/-- Point `t` is on key head `t % 8`. -/
def headAt (t : Fin grid0.N) : Fin 8 := ⟨t.val % 8, by omega⟩

/-- The block of the queries at each point. -/
theorem index_q : ∀ t : Fin grid0.N, win0_0.index t 0 = t.val / 8 ∧ win0_0.index t 1 = t.val % 8 ∧ win0_0.index t 2 = 0
    ∧ win0_0.index t 3 = 0 := by decide +kernel

/-- The block of the keys at each point. -/
theorem index_k : ∀ t : Fin grid0.N, win0_1.index t 0 = t.val / 8 ∧ win0_1.index t 1 = 0 ∧ win0_1.index t 2 = t.val % 8 := by
  decide +kernel

/-- The block of the values at each point. -/
theorem index_v : ∀ t : Fin grid0.N, win0_2.index t 0 = t.val / 8 ∧ win0_2.index t 1 = 0 ∧ win0_2.index t 2 = t.val % 8 := by
  decide +kernel

/-- The block of the result at each point. -/
theorem index_o : ∀ t : Fin grid0.N, win0_3.index t 0 = t.val / 8 ∧ win0_3.index t 1 = t.val % 8 ∧ win0_3.index t 2 = 0
    ∧ win0_3.index t 3 = 0 := by decide +kernel

/-- Where an entry of the queries' block lies in the queries. -/
theorem place_q (t : Fin grid0.N) (r : Fin 64) (e : Fin 128) :
    (win0_0.rect t).emb (ix4 (0 : Fin 1) (0 : Fin 1) r e) = ix4 (rowAt t) (headAt t) r e := by
  obtain ⟨h0, h1, h2, h3⟩ := index_q t
  funext a
  apply Fin.ext
  refine (Pipeline.Window.rect_emb_val win0_0 t _ a rfl).trans ?_
  fin_cases a
  · show win0_0.index t 0 * 1 + 0 = t.val / 8
    omega
  · show win0_0.index t 1 * 1 + 0 = t.val % 8
    omega
  · show win0_0.index t 2 * 64 + r.val = r.val
    omega
  · show win0_0.index t 3 * 128 + e.val = e.val
    omega

/-- Where an entry of the keys' block lies in the keys. -/
theorem place_k (t : Fin grid0.N) (s : Fin 4096) (e : Fin 128) :
    (win0_1.rect t).emb (ix3 (0 : Fin 1) s e)
      = ix3 (rowAt t) s (⟨(headAt t).val * 128 + e.val, by omega⟩ : Fin 1024) := by
  obtain ⟨h0, h1, h2⟩ := index_k t
  funext a
  apply Fin.ext
  refine (Pipeline.Window.rect_emb_val win0_1 t _ a rfl).trans ?_
  fin_cases a
  · show win0_1.index t 0 * 1 + 0 = t.val / 8
    omega
  · show win0_1.index t 1 * 4096 + s.val = s.val
    omega
  · show win0_1.index t 2 * 128 + e.val = t.val % 8 * 128 + e.val
    omega

/-- Where an entry of the values' block lies in the values. -/
theorem place_v (t : Fin grid0.N) (s : Fin 4096) (e : Fin 128) :
    (win0_2.rect t).emb (ix3 (0 : Fin 1) s e)
      = ix3 (rowAt t) s (⟨(headAt t).val * 128 + e.val, by omega⟩ : Fin 1024) := by
  obtain ⟨h0, h1, h2⟩ := index_v t
  funext a
  apply Fin.ext
  refine (Pipeline.Window.rect_emb_val win0_2 t _ a rfl).trans ?_
  fin_cases a
  · show win0_2.index t 0 * 1 + 0 = t.val / 8
    omega
  · show win0_2.index t 1 * 4096 + s.val = s.val
    omega
  · show win0_2.index t 2 * 128 + e.val = t.val % 8 * 128 + e.val
    omega

/-- Where an entry of the result's block lies in the result. -/
theorem place_o (t : Fin grid0.N) (r : Fin 64) (d : Fin 128) :
    (win0_3.rect t).emb (ix4 (0 : Fin 1) (0 : Fin 1) r d) = ix4 (rowAt t) (headAt t) r d := by
  obtain ⟨h0, h1, h2, h3⟩ := index_o t
  funext a
  apply Fin.ext
  refine (Pipeline.Window.rect_emb_val win0_3 t _ a rfl).trans ?_
  fin_cases a
  · show win0_3.index t 0 * 1 + 0 = t.val / 8
    omega
  · show win0_3.index t 1 * 1 + 0 = t.val % 8
    omega
  · show win0_3.index t 2 * 64 + r.val = r.val
    omega
  · show win0_3.index t 3 * 128 + d.val = d.val
    omega

variable (m : (ℓ : Loc nD τ sig) → Buf (Elt Ideal) ℓ) (c : Dev nD)

/-- The queries' block at a point, entry by entry. -/
theorem block_q (t : Fin cfg0.N) (r : Fin 64) (e : Fin 128) :
    iblk m c 0 t (ix4 (0 : Fin 1) (0 : Fin 1) r e) = V m c main_v2 (ix4 (rowAt t) (headAt t) r e) :=
  congrArg (V m c main_v2) (place_q t r e)

/-- The keys' block at a point, entry by entry. -/
theorem block_k (t : Fin cfg0.N) (s : Fin 4096) (e : Fin 128) :
    iblk m c 1 t (ix3 (0 : Fin 1) s e)
      = V m c main_v3 (ix3 (rowAt t) s (⟨(headAt t).val * 128 + e.val, by omega⟩ : Fin 1024)) :=
  congrArg (V m c main_v3) (place_k t s e)

/-- The values' block at a point, entry by entry. -/
theorem block_v (t : Fin cfg0.N) (s : Fin 4096) (e : Fin 128) :
    iblk m c 2 t (ix3 (0 : Fin 1) s e)
      = V m c main_v4 (ix3 (rowAt t) s (⟨(headAt t).val * 128 + e.val, by omega⟩ : Fin 1024)) :=
  congrArg (V m c main_v4) (place_v t s e)

/-- Offsets written out as zeros. -/
theorem zeros4 : (![0, 0, 0, 0] : Fin 4 → Nat) = fun _ => 0 := funext fun a => by fin_cases a <;> rfl

/-- The same on three axes. -/
theorem zeros3 : (![0, 0, 0] : Fin 3 → Nat) = fun _ => 0 := funext fun a => by fin_cases a <;> rfl

/-- Every point writes back its block of the grouped attention. -/
theorem flushed_eq (t : Fin cfg0.N) : (dats m 0 c).flushed 3 t
    = (win0_3.blk t).view.read (Elt Ideal) (groupedArray (V m c main_v2) (V m c main_v3) (V m c main_v4)) := by
  show (cfg0.win 3).cut (grid0.coords t) ((dats m 0 c).after 3 t) = _
  rw [after0_3]
  unfold out0_3
  rw [View.canon_unit_zero zeros4, View.ld_unit_zero zeros4, View.ld_unit_zero zeros3, View.ld_unit_zero zeros3]
  funext y
  obtain ⟨r, d, rfl⟩ : ∃ (r : Fin 64) (d : Fin 128), y = ix4 (0 : Fin 1) (0 : Fin 1) r d :=
    ⟨y 2, y 3, by funext a; fin_cases a <;> first | rfl | exact Subsingleton.elim (α := Fin 1) _ _⟩
  refine (stored_apply (iblk m c 0 t) (iblk m c 1 t) (iblk m c 2 t) r d).trans ?_
  simp only [block_q, block_k, block_v]
  exact (congrArg (groupedArray (V m c main_v2) (V m c main_v3) (V m c main_v4)) (place_o t r d)).symm

/-- The blocks of the result tile it. -/
theorem tiled (i : S8x8x64x128.Idx) :
    ∃ t : Fin cfg0.N, (cfg0.win 3).flush t = true ∧ i ∈ ((cfg0.win 3).blk t).view.set := by
  have h0 : (i 0 : Nat) < 8 := (i 0).isLt
  have h1 : (i 1 : Nat) < 8 := (i 1).isLt
  have ht : (i 0 : Nat) * 8 + (i 1 : Nat) < grid0.N := by rw [N_0]; omega
  refine ⟨⟨_, ht⟩, flush0_3 _, ?_⟩
  obtain ⟨e0, e1, e2, e3⟩ := index_o ⟨_, ht⟩
  have h2 : (i 2 : Nat) < 64 := (i 2).isLt
  have h3 : (i 3 : Nat) < 128 := (i 3).isLt
  show i ∈ ((View.whole main_v5).slice (win0_3.rect ⟨_, ht⟩)).set
  rw [View.set_slice_whole, Rect.mem_set_unit]
  intro a
  fin_cases a
  · show win0_3.index _ 0 * 1 ≤ (i 0 : Nat) ∧ (i 0 : Nat) < win0_3.index _ 0 * 1 + 1
    rw [e0]
    show ((i 0 : Nat) * 8 + (i 1 : Nat)) / 8 * 1 ≤ _ ∧ _ < ((i 0 : Nat) * 8 + (i 1 : Nat)) / 8 * 1 + 1
    omega
  · show win0_3.index _ 1 * 1 ≤ (i 1 : Nat) ∧ (i 1 : Nat) < win0_3.index _ 1 * 1 + 1
    rw [e1]
    show ((i 0 : Nat) * 8 + (i 1 : Nat)) % 8 * 1 ≤ _ ∧ _ < ((i 0 : Nat) * 8 + (i 1 : Nat)) % 8 * 1 + 1
    omega
  · show win0_3.index _ 2 * 64 ≤ (i 2 : Nat) ∧ (i 2 : Nat) < win0_3.index _ 2 * 64 + 64
    rw [e2]
    omega
  · show win0_3.index _ 3 * 128 ≤ (i 3 : Nat) ∧ (i 3 : Nat) < win0_3.index _ 3 * 128 + 128
    rw [e3]
    omega

/-- So the launch leaves the grouped attention in its result array. -/
theorem launched : (dats m 0 c).arrAt 3 cfg0.N = groupedArray (V m c main_v2) (V m c main_v3) (V m c main_v4) :=
  (dats m 0 c).arrAt_eq_of_cover 3 _ (fun t _ => flushed_eq m c t) tiled

end Cert.Proof

end
-- ==== Proof.Result.lean ====
/- The kernel's result array: the attention of its arguments. -/
module

public import proofs.«01_k».proof.Proof.KernelValue

@[expose] public section

noncomputable section

namespace Cert.Proof

open Idealize.ShloMosaic Idealize.ShloMosaic.TcCoe Cert.KernelIdeal Cert.KernelIdeal.Gen Idealize.SL.Sem

/-- The queries as the launch takes them, grouped by key head. -/
def groupedQueries (q : FVec Ideal S8x16x32x128 .f32) : FVec Ideal S8x8x64x128 .f32 :=
  shapeCast S8x8x64x128 (transpose S8x8x16x4x128 [0, 2, 1, 3, 4]
    (shapeCast S8x16x8x4x128 q shapeCasts_S8x16x32x128_S8x16x8x4x128) transposes_S8x16x8x4x128_S8x8x16x4x128_0_2_1_3_4)
    shapeCasts_S8x8x16x4x128_S8x8x64x128

/-- The keys or the values as the launch takes them, the heads side by side. -/
def sideBySide (x : FVec Ideal S8x4096x8x128 .f32) : FVec Ideal S8x4096x1024 .f32 :=
  shapeCast S8x4096x1024 x shapeCasts_S8x4096x8x128_S8x4096x1024

/-- The result as it is returned, from the launch's grouped one. -/
def ungrouped (x : FVec Ideal S8x8x64x128 .f32) : FVec Ideal S8x16x32x128 .f32 :=
  shapeCast S8x16x32x128 (transpose S8x16x8x4x128 [0, 2, 1, 3, 4]
    (shapeCast S8x8x16x4x128 x shapeCasts_S8x8x64x128_S8x8x16x4x128) transposes_S8x8x16x4x128_S8x16x8x4x128_0_2_1_3_4)
    shapeCasts_S8x16x8x4x128_S8x16x32x128

/-- Row `4 i + n % 4` of key head `n / 4` is query `i` of head `n`. -/
theorem groupedQueries_apply (q : FVec Ideal S8x16x32x128 .f32) (b : Fin 8) (i : Fin 16) (n : Fin 32) (e : Fin 128) :
    groupedQueries q (ix4 b (⟨n.val / 4, by omega⟩ : Fin 8) (⟨i.val * 4 + n.val % 4, by omega⟩ : Fin 64) e) = q (ix4 b i n e) := by
  pointwise [groupedQueries]

/-- Column `128 h + e` is entry `e` of head `h`. -/
theorem sideBySide_apply (x : FVec Ideal S8x4096x8x128 .f32) (b : Fin 8) (s : Fin 4096) (h : Fin 8) (e : Fin 128) :
    sideBySide x (ix3 b s (⟨h.val * 128 + e.val, by omega⟩ : Fin 1024)) = x (ix4 b s h e) := by
  pointwise [sideBySide]

/-- Query `i` of head `n` is returned from row `4 i + n % 4` of key head `n / 4`. -/
theorem ungrouped_apply (x : FVec Ideal S8x8x64x128 .f32) (b : Fin 8) (i : Fin 16) (n : Fin 32) (d : Fin 128) :
    ungrouped x (ix4 b i n d)
      = x (ix4 b (⟨n.val / 4, by omega⟩ : Fin 8) (⟨i.val * 4 + n.val % 4, by omega⟩ : Fin 64) d) := by
  pointwise [ungrouped]

/-- Grouping, attending and ungrouping is the attention. -/
theorem ungrouped_attention (q : FVec Ideal S8x16x32x128 .f32) (k v : FVec Ideal S8x4096x8x128 .f32) :
    ungrouped (groupedArray (groupedQueries q) (sideBySide k) (sideBySide v)) = attention q k v := by
  funext j
  obtain ⟨b, i, n, d, rfl⟩ : ∃ b i n d, j = ix4 b i n d := ⟨j 0, j 1, j 2, j 3, by idx_ext⟩
  rw [ungrouped_apply]
  have h : ∀ Q K V (h : Fin 8) (r : Fin 64), groupedArray Q K V (ix4 b h r d) = grouped Q K V b h r d := fun _ _ _ _ _ => rfl
  rw [h]
  unfold grouped attention attended
  have hq : (fun e => groupedQueries q (ix4 b (⟨n.val / 4, by omega⟩ : Fin 8) (⟨i.val * 4 + n.val % 4, by omega⟩ : Fin 64) e))
      = fun e => q (ix4 b i n e) := funext fun e => groupedQueries_apply q b i n e
  have hx : ∀ x : FVec Ideal S8x4096x8x128 .f32,
      (fun s => quant fun e : Fin 128 => sideBySide x (ix3 b s (⟨n.val / 4 * 128 + e.val, by omega⟩ : Fin 1024)))
        = fun s e => quantised x (ix4 b s (⟨n.val / 4, by omega⟩ : Fin 8) e) := fun x =>
    funext fun s => congrArg quant (funext fun e => sideBySide_apply x b s (⟨n.val / 4, by omega⟩ : Fin 8) e)
  have hi : (⟨(i.val * 4 + n.val % 4) / 4, by omega⟩ : Fin 16) = i := Fin.ext (by show (i.val * 4 + n.val % 4) / 4 = i.val; omega)
  exact congrArg₂ attend (congr (congrArg₂ score hq (hx k)) hi) (funext fun s => congrFun (congrFun (hx v) s) d)

variable (m : (ℓ : Loc nD τ sig) → Buf (Elt Ideal) ℓ) (c : Dev nD)

/-- The launch finds the queries grouped, -/
theorem entry_q : V m c main_v2 = groupedQueries (m ((c : Thread nD τ).loc main_arg0)) := by
  simp only [V, V0, List.flatten_cons, List.flatten_nil, List.append_nil]
  after_results
  rfl

/-- the keys side by side, -/
theorem entry_k : V m c main_v3 = sideBySide (m ((c : Thread nD τ).loc main_arg1)) := by
  simp only [V, V0, List.flatten_cons, List.flatten_nil, List.append_nil]
  after_results
  rfl

/-- and the values too. -/
theorem entry_v : V m c main_v4 = sideBySide (m ((c : Thread nD τ).loc main_arg2)) := by
  simp only [V, V0, List.flatten_cons, List.flatten_nil, List.append_nil]
  after_results
  rfl

/-- What the lines after the launch return, of whatever they find. -/
theorem tail_eq (W : Valuation τ sig (Elt Ideal)) :
    StableHlo.after hostOps1 W (Proc.devRef .tc main_v8) = ungrouped (W (Proc.devRef .tc main_v5)) := by
  after_results
  rfl

/-- The four arrays the launch works on are different ones. -/
theorem arrays_apart : Function.Injective (Pipeline.arrRef spec0) := launch0.win.arr_inj

/-- What is returned is the attention of the arguments. -/
theorem returned : Pipeline.afterTail₀ cfgs (dats m) 0 (V0 m) [hostOps1] c main_v8
    = attention (m ((c : Thread nD τ).loc main_arg0)) (m ((c : Thread nD τ).loc main_arg1)) (m ((c : Thread nD τ).loc main_arg2)) := by
  unfold Pipeline.afterTail₀
  rw [List.flatten_cons, List.flatten_nil, List.append_nil, tail_eq]
  refine (congrArg ungrouped ((Pipeline.withArrays_arr spec0 arrays_apart c (V0 m c) (fun w => (dats m 0 c).arrAt w cfg0.N) 3).trans
    (launched m c))).trans ?_
  rw [entry_q, entry_k, entry_v]
  exact ungrouped_attention _ _ _

/-- The kernel's run: its result array ends at the attention of its arguments, which end unchanged. -/
theorem kernel_run (ρ : Dev nD → PrngReg) : θ_run defs (onTc (τ := τ) (main (F := Ideal))) ⟨m, fun _ => 0, ρ⟩ fun r => ∀ c : Dev nD,
      r.2.mem ((c.tc : Thread nD τ).loc main_v8)
        = attention (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨((h.1 c).2 main_v8 (Pipeline.mem_restRefs_of main_v8 (by decide) (by decide))).trans (returned m c), h.2 c⟩)
    (θ_run_and (run_main m ρ) (unchanged m ρ))

end Cert.Proof

end
-- ==== Proof.Algebraic.lean ====
/- The value claim: the kernel and the reference leave the same result, the attention of the arguments. -/
module

public import proofs.«01_k».proof.Proof.Frames
public import proofs.«01_k».proof.Proof.Result

@[expose] public section

noncomputable section

namespace Cert.Proof

open Idealize.ShloMosaic Idealize.ShloMosaic.TcCoe Idealize.SL.Sem

/-- The reference's run where the precondition holds of its arguments: its result ends at their attention. -/
theorem reference_run (m : (ℓ : Loc Cert.ReferenceIdeal.nD Cert.ReferenceIdeal.τ Cert.ReferenceIdeal.sig) → Buf (Elt Ideal) ℓ)
    (ρ : Dev Cert.ReferenceIdeal.nD → PrngReg) (h : Cert.Pre_ReferenceIdeal_blocks_distinct m) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread _ _).loc Cert.ReferenceIdeal.main_v422)
          = attention (m ((c.tc : Thread _ _).loc Cert.ReferenceIdeal.main_arg0)) (m ((c.tc : Thread _ _).loc Cert.ReferenceIdeal.main_arg1))
            (m ((c.tc : Thread _ _).loc Cert.ReferenceIdeal.main_arg2))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3)) :=
  (θ_run Cert.ReferenceIdeal.defs _ _).mono
    (fun _ hr c => ⟨(hr c).1.trans (printed_result (StableHlo.launchContents m c) (h c).1 (h c).2.1 (h c).2.2), (hr c).2⟩)
    (Cert.ReferenceIdeal.Value.run (F := Ideal) m ρ)

/-- The kernel's result is the reference's. -/
theorem algebraic : Cert.algebraic_KernelIdeal_ReferenceIdeal_pre_blocks_distinct := by
  intro m ρ m' ρ' hpre hagree
  refine ⟨fun c => attention (m ((c.tc : Thread _ _).loc Cert.KernelIdeal.main_arg0)) (m ((c.tc : Thread _ _).loc Cert.KernelIdeal.main_arg1))
    (m ((c.tc : Thread _ _).loc Cert.KernelIdeal.main_arg2)), kernel_run m ρ, ?_⟩
  have h' : Cert.Pre_ReferenceIdeal_blocks_distinct m' := fun c => by
    rw [(hagree c).1, (hagree c).2.1, (hagree c).2.2.1, (hagree c).2.2.2]
    exact hpre c
  refine (θ_run Cert.ReferenceIdeal.defs _ _).mono (fun _ hr c => ⟨(hr c).1.trans ?_, (hr c).2⟩) (reference_run m' ρ' h')
  rw [(hagree c).1, (hagree c).2.1, (hagree c).2.2.1]

end Cert.Proof

end
-- ==== Proof.lean ====
/- The certificate: the frames of the kernel, its idealization and the reference, the ledger of the idealization, and the
   equality of the kernel's result with the reference's. -/
module

public import proofs.«01_k».proof.Defs
public import proofs.«01_k».proof.Proof.Frames
public import proofs.«01_k».proof.Proof.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts, preFacts, frame_kernel, frame_ideal,
    frame_ideal_pre, frame_reference, frame_reference_pre, preserves, algebraic⟩

end Cert.Proof

end
